-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts) (hPre_finite : Cert.Pre_finite.Facts),
    quiescent_Kernel (hKernel := hKernel) (hPre_in_range := hPre_in_range)
    ∧ quiescent_KernelIdeal (hKernelIdeal := hKernelIdeal) (hPre_in_range := hPre_in_range)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x200 : Shape := ⟨2, ![4096, 200]⟩
abbrev S1000000x64 : Shape := ⟨2, ![1000000, 64]⟩
abbrev S64x64 : Shape := ⟨2, ![64, 64]⟩
abbrev S64 : Shape := ⟨1, ![64]⟩
abbrev S6x64 : Shape := ⟨2, ![6, 64]⟩
abbrev S6 : Shape := ⟨1, ![6]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S64x64 : S_.BroadcastsInDim S64x64 (![] : Fin 0 → Fin S64x64.rank)
  reducesTo_S64x64_S_d0_1 : S64x64.ReducesTo [0, 1] S_
  bcast_S_S6x64 : S_.BroadcastsInDim S6x64 (![] : Fin 0 → Fin S6x64.rank)
  reducesTo_S6x64_S_d0_1 : S6x64.ReducesTo [0, 1] S_

variable [Facts]

def fn_part1 {F : FTy → Type} [FloatOps F] (main_arg4 : FVec F S6x64 .f32) (main_v11 : IVec S_ 1) (main_v15 : IVec S_ 1) : IVec S_ 1 :=
  let main_v16 : IVec S_ 1 := andi main_v11 main_v15
  let main_v17 : FVec F S6x64 .f32 := Host.absf main_arg4
  let main_cst_6 : FVec F S_ .f32 := constant S_ .f32 0x7F800000#32
  let main_v18 : FVec F S6x64 .f32 := broadcastInDim S6x64 ![] bcast_S_S6x64 main_cst_6
  let main_v19 : IVec S6x64 1 := cmpf .olt main_v17 main_v18
  let main_c_7 : IVec S_ 1 := constantI S_ 1 1#1
  let main_v20 : IVec S_ 1 := (fun x v => Host.reduce IntOp.andi x v reducesTo_S6x64_S_d0_1 h_S_) main_v19 main_c_7
  let main_v21 : IVec S_ 1 := andi main_v16 main_v20
  main_v21

def fn {F : FTy → Type} [FloatOps F] (main_arg0 : IVec S4096x200 32) (main_arg1 : FVec F S1000000x64 .f32) (main_arg2 : FVec F S64x64 .f32) (main_arg3 : FVec F S64 .f32) (main_arg4 : FVec F S6x64 .f32) (main_arg5 : FVec F S6 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 1 := constantI S_ 1 1#1
  let main_v2 : IVec S_ 1 := (fun x v => Host.reduce IntOp.andi x v reducesTo_S4096x200_S_d0_1 h_S_) main_v1 main_c_0
  let main_c_1 : IVec S_ 32 := constantI S_ 32 1000000#32
  let main_v3 : IVec S4096x200 32 := broadcastInDim S4096x200 ![] bcast_S_S4096x200 main_c_1
  let main_v4 : IVec S4096x200 1 := cmpi .slt main_arg0 main_v3
  let main_c_2 : IVec S_ 1 := constantI S_ 1 1#1
  let main_v5 : IVec S_ 1 := (fun x v => Host.reduce IntOp.andi x v reducesTo_S4096x200_S_d0_1 h_S_) main_v4 main_c_2
  let main_v6 : IVec S_ 1 := andi main_v2 main_v5
  let main_v7 : FVec F S1000000x64 .f32 := Host.absf main_arg1
  let main_cst : FVec F S_ .f32 := constant S_ .f32 0x7F800000#32
  let main_v8 : FVec F S1000000x64 .f32 := broadcastInDim S1000000x64 ![] bcast_S_S1000000x64 main_cst
  let main_v9 : IVec S1000000x64 1 := cmpf .olt main_v7 main_v8
  let main_c_3 : IVec S_ 1 := constantI S_ 1 1#1
  let main_v10 : IVec S_ 1 := (fun x v => Host.reduce IntOp.andi x v reducesTo_S1000000x64_S_d0_1 h_S_) main_v9 main_c_3
  let main_v11 : IVec S_ 1 := andi main_v6 main_v10
  let main_v12 : FVec F S64x64 .f32 := Host.absf main_arg2
  let main_cst_4 : FVec F S_ .f32 := constant S_ .f32 0x7F800000#32
  let main_v13 : FVec F S64x64 .f32 := broadcastInDim S64x64 ![] bcast_S_S64x64 main_cst_4
  let main_v14 : IVec S64x64 1 := cmpf .olt main_v12 main_v13
  let main_c_5 : IVec S_ 1 := constantI S_ 1 1#1
  let main_v15 : IVec S_ 1 := (fun x v => Host.reduce IntOp.andi x v reducesTo_S64x64_S_d0_1 h_S_) main_v14 main_c_5
  fn_part1 (F := F) main_arg4 main_v11 main_v15
-- ==== Pre_in_range.lean ====
abbrev S4096x200 : Shape := ⟨2, ![4096, 200]⟩
abbrev S1000000x64 : Shape := ⟨2, ![1000000, 64]⟩
abbrev S64x64 : Shape := ⟨2, ![64, 64]⟩
abbrev S64 : Shape := ⟨1, ![64]⟩
abbrev S6x64 : Shape := ⟨2, ![6, 64]⟩
abbrev S6 : Shape := ⟨1, ![6]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : IVec S4096x200 32) (main_arg1 : FVec F S1000000x64 .f32) (main_arg2 : FVec F S64x64 .f32) (main_arg3 : FVec F S64 .f32) (main_arg4 : FVec F S6x64 .f32) (main_arg5 : FVec F S6 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 1 := constantI S_ 1 1#1
  let main_v2 : IVec S_ 1 := (fun x v => Host.reduce IntOp.andi x v reducesTo_S4096x200_S_d0_1 h_S_) main_v1 main_c_0
  let main_c_1 : IVec S_ 32 := constantI S_ 32 1000000#32
  let main_v3 : IVec S4096x200 32 := broadcastInDim S4096x200 ![] bcast_S_S4096x200 main_c_1
  let main_v4 : IVec S4096x200 1 := cmpi .slt main_arg0 main_v3
  let main_c_2 : IVec S_ 1 := constantI S_ 1 1#1
  let main_v5 : IVec S_ 1 := (fun x v => Host.reduce IntOp.andi x v reducesTo_S4096x200_S_d0_1 h_S_) main_v4 main_c_2
  let main_v6 : IVec S_ 1 := andi main_v2 main_v5
  main_v6
-- ==== Kernel.lean ====
abbrev S4096x200 : Shape := ⟨2, ![4096, 200]⟩
abbrev S1000000x64 : Shape := ⟨2, ![1000000, 64]⟩
abbrev S64x64 : Shape := ⟨2, ![64, 64]⟩
abbrev S64 : Shape := ⟨1, ![64]⟩
abbrev S6x64 : Shape := ⟨2, ![6, 64]⟩
abbrev S6 : Shape := ⟨1, ![6]⟩
abbrev S_ : Shape := ⟨0, ![]⟩
abbrev S16x64 : Shape := ⟨2, ![16, 64]⟩
abbrev S1 : Shape := ⟨1, ![1]⟩
abbrev S16 : Shape := ⟨1, ![16]⟩
abbrev S1x16 : Shape := ⟨2, ![1, 16]⟩
abbrev S64x1000000 : Shape := ⟨2, ![64, 1000000]⟩
abbrev S64x16 : Shape := ⟨2, ![64, 16]⟩
abbrev S125000x128 : Shape := ⟨2, ![125000, 128]⟩
abbrev S1984x128 : Shape := ⟨2, ![1984, 128]⟩
abbrev S3x64x15872 : Shape := ⟨3, ![3, 64, 15872]⟩
abbrev S3 : Shape := ⟨1, ![3]⟩
abbrev S1x64x15872 : Shape := ⟨3, ![1, 64, 15872]⟩
abbrev S64x15872 : Shape := ⟨2, ![64, 15872]⟩
abbrev S1x64x1984 : Shape := ⟨3, ![1, 64, 1984]⟩
abbrev S64x1984 : Shape := ⟨2, ![64, 1984]⟩
abbrev S1984x16 : Shape := ⟨2, ![1984, 16]⟩
abbrev S8x128 : Shape := ⟨2, ![8, 128]⟩
abbrev S819200 : Shape := ⟨1, ![819200]⟩
abbrev S1000000x16 : Shape := ⟨2, ![1000000, 16]⟩
abbrev S819200x16 : Shape := ⟨2, ![819200, 16]⟩
abbrev S3200 : Shape := ⟨1, ![3200]⟩
abbrev S3200x16 : Shape := ⟨2, ![3200, 16]⟩
abbrev S819200x6 : Shape := ⟨2, ![819200, 6]⟩
abbrev S4096x200x6 : Shape := ⟨3, ![4096, 200, 6]⟩

abbrev nBuf : Table → Nat
  | .hbm => 132
  | .local .tc .vmem => 7
  | .local .scVector .vmem => 2
  | _ => 0

abbrev hbmTy0_0 (i : Nat) : BufTy := match i % 128 with
  | 0 => ⟨S4096x200, .i32⟩
  | 1 => ⟨S1000000x64, .f32⟩
  | 2 => ⟨S64x64, .f32⟩
  | 3 => ⟨S64, .f32⟩
  | 4 => ⟨S6x64, .f32⟩
  | 5 => ⟨S6, .f32⟩
  | 6 => ⟨S_, .f32⟩
  | 7 => ⟨S16x64, .f32⟩
  | 8 => ⟨S_, .i32⟩
  | 9 => ⟨S1, .i32⟩
  | 10 => ⟨S16x64, .f32⟩
  | 11 => ⟨S_, .f32⟩
  | 12 => ⟨S16, .f32⟩
  | 13 => ⟨S_, .i32⟩
  | 14 => ⟨S1, .i32⟩
  | 15 => ⟨S16, .f32⟩
  | 16 => ⟨S16x64, .f32⟩
  | 17 => ⟨S16, .f32⟩
  | 18 => ⟨S16, .f32⟩
  | 19 => ⟨S1x16, .f32⟩
  | 20 => ⟨S64x1000000, .f32⟩
  | 21 => ⟨S64x16, .f32⟩
  | 22 => ⟨S125000x128, .f32⟩
  | 23 => ⟨S64x64, .f32⟩
  | 24 => ⟨S64x16, .f32⟩
  | 25 => ⟨S64x16, .f32⟩
  | 26 => ⟨S64x16, .f32⟩
  | 27 => ⟨S64x16, .f32⟩
  | 28 => ⟨S_, .f32⟩
  | 29 => ⟨S64x16, .f32⟩
  | 30 => ⟨S64x16, .i1⟩
  | 31 => ⟨S64x16, .f32⟩
  | 32 => ⟨S64x16, .f32⟩
  | 33 => ⟨S8x128, .f32⟩
  | 34 => ⟨S125000x128, .f32⟩
  | 35 => ⟨S819200, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S819200, .i32⟩
  | 43 => ⟨S819200, .i32⟩
  | 44 => ⟨S_, .i32⟩
  | 45 => ⟨S819200, .i32⟩
  | 46 => ⟨S819200, .i1⟩
  | 47 => ⟨S_, .i32⟩
  | 48 => ⟨S819200, .i32⟩
  | 49 => ⟨S819200, .i1⟩
  | 50 => ⟨S_, .i32⟩
  | 51 => ⟨S_, .i1⟩
  | 52 => ⟨S819200, .i1⟩
  | 53 => ⟨S819200, .i1⟩
  | 54 => ⟨S819200, .i1⟩
  | 55 => ⟨S819200, .i32⟩
  | 56 => ⟨S819200, .i32⟩
  | 57 => ⟨S819200, .i32⟩
  | 58 => ⟨S_, .i32⟩
  | 59 => ⟨S819200, .i32⟩
  | 60 => ⟨S819200, .i1⟩
  | 61 => ⟨S_, .i32⟩
  | 62 => ⟨S_, .i32⟩
  | 63 => ⟨S819200, .i32⟩
  | 64 => ⟨S819200, .i32⟩
  | 65 => ⟨S819200, .i32⟩
  | 66 => ⟨S_, .i32⟩
  | 67 => ⟨S819200, .i32⟩
  | 68 => ⟨S819200, .i1⟩
  | 69 => ⟨S819200, .i32⟩
  | 70 => ⟨S819200, .i32⟩
  | 71 => ⟨S_, .i32⟩
  | 72 => ⟨S819200, .i32⟩
  | 73 => ⟨S819200, .i1⟩
  | 74 => ⟨S819200, .i1⟩
  | 75 => ⟨S_, .i32⟩
  | 76 => ⟨S819200, .i32⟩
  | 77 => ⟨S819200, .i32⟩
  | 78 => ⟨S819200, .i32⟩
  | 79 => ⟨S_, .i32⟩
  | 80 => ⟨S819200, .i32⟩
  | 81 => ⟨S819200, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S819200, .i32⟩
  | 89 => ⟨S819200, .i32⟩
  | 90 => ⟨S_, .i32⟩
  | 91 => ⟨S819200, .i32⟩
  | 92 => ⟨S819200, .i1⟩
  | 93 => ⟨S_, .i32⟩
  | 94 => ⟨S819200, .i32⟩
  | 95 => ⟨S819200, .i1⟩
  | 96 => ⟨S_, .i32⟩
  | 97 => ⟨S_, .i1⟩
  | 98 => ⟨S819200, .i1⟩
  | 99 => ⟨S819200, .i1⟩
  | 100 => ⟨S819200, .i1⟩
  | 101 => ⟨S819200, .i32⟩
  | 102 => ⟨S819200, .i32⟩
  | 103 => ⟨S819200, .i32⟩
  | 104 => ⟨S819200, .i32⟩
  | 105 => ⟨S_, .i32⟩
  | 106 => ⟨S819200, .i32⟩
  | 107 => ⟨S819200, .i32⟩
  | 108 => ⟨S_, .i32⟩
  | 109 => ⟨S_, .i32⟩
  | 110 => ⟨S819200, .i32⟩
  | 111 => ⟨S819200, .i32⟩
  | 112 => ⟨S819200, .i32⟩
  | 113 => ⟨S_, .i32⟩
  | 114 => ⟨S819200, .i32⟩
  | 115 => ⟨S819200, .i1⟩
  | 116 => ⟨S819200, .i32⟩
  | 117 => ⟨S819200, .i32⟩
  | 118 => ⟨S_, .i32⟩
  | 119 => ⟨S819200, .i32⟩
  | 120 => ⟨S819200, .i1⟩
  | 121 => ⟨S819200, .i1⟩
  | 122 => ⟨S_, .i32⟩
  | 123 => ⟨S819200, .i32⟩
  | 124 => ⟨S819200, .i32⟩
  | 125 => ⟨S819200, .i32⟩
  | 126 => ⟨S819200, .i32⟩
  | 127 => ⟨S819200, .i32⟩
  | _ => ⟨S4096x200, .i32⟩

abbrev hbmTy0_1 (i : Nat) : BufTy := match i % 128 with
  | 0 => ⟨S1000000x16, .f32⟩
  | 1 => ⟨S819200x16, .f32⟩
  | 2 => ⟨S819200x6, .f32⟩
  | 3 => ⟨S4096x200x6, .f32⟩
  | _ => ⟨S4096x200, .i32⟩

abbrev hbmTy (i : Nat) : BufTy := match i / 128 with
  | 0 => hbmTy0_0 i
  | 1 => hbmTy0_1 i
  | _ => ⟨S4096x200, .i32⟩

abbrev bufTy : (tb : Table) → Fin (nBuf tb) → BufTy
  | .hbm, ⟨i, _⟩ => hbmTy i
  | .local .tc .vmem, ⟨0, _⟩ => ⟨S64x16, .f32⟩
  | .local .tc .vmem, ⟨1, _⟩ => ⟨S1x16, .f32⟩
  | .local .tc .vmem, ⟨2, _⟩ => ⟨S1984x128, .f32⟩
  | .local .tc .vmem, ⟨3, _⟩ => ⟨S1984x128, .f32⟩
  | .local .tc .vmem, ⟨4, _⟩ => ⟨S3x64x15872, .f32⟩
  | .local .tc .vmem, ⟨5, _⟩ => ⟨S8x128, .f32⟩
  | .local .tc .vmem, ⟨6, _⟩ => ⟨S8x128, .f32⟩
  | .local .scVector .vmem, ⟨0, _⟩ => ⟨S3200, .i32⟩
  | .local .scVector .vmem, ⟨1, _⟩ => ⟨S3200x16, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_3 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_v5 : Ref sig .tc := ⟨.hbm, 45, rfl⟩
abbrev main_call1_v6 : Ref sig .tc := ⟨.hbm, 46, rfl⟩
abbrev main_call1_c_2 : Ref sig .tc := ⟨.hbm, 47, rfl⟩
abbrev main_call1_v7 : Ref sig .tc := ⟨.hbm, 48, rfl⟩
abbrev main_call1_v8 : Ref sig .tc := ⟨.hbm, 49, rfl⟩
abbrev main_call1_c_3 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_v25 : Ref sig .tc := ⟨.hbm, 57, rfl⟩
abbrev main_c_4 : Ref sig .tc := ⟨.hbm, 58, rfl⟩
abbrev main_v26 : Ref sig .tc := ⟨.hbm, 59, rfl⟩
abbrev main_v27 : Ref sig .tc := ⟨.hbm, 60, rfl⟩
abbrev main_c_5 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_c : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_0 : Ref sig .tc := ⟨.hbm, 75, rfl⟩
abbrev main_call2_v12 : Ref sig .tc := ⟨.hbm, 76, rfl⟩
abbrev main_call2_v13 : Ref sig .tc := ⟨.hbm, 77, rfl⟩
abbrev main_v28 : Ref sig .tc := ⟨.hbm, 78, rfl⟩
abbrev main_c_6 : Ref sig .tc := ⟨.hbm, 79, rfl⟩
abbrev main_v29 : Ref sig .tc := ⟨.hbm, 80, rfl⟩
abbrev main_v30 : Ref sig .tc := ⟨.hbm, 81, rfl⟩
abbrev main_c_7 : Ref sig .tc := ⟨.hbm, 82, rfl⟩
abbrev main_call3_v0 : Ref sig .tc := ⟨.hbm, 83, rfl⟩
abbrev main_call3_c : Ref sig .tc := ⟨.hbm, 84, rfl⟩
abbrev main_call3_v1 : Ref sig .tc := ⟨.hbm, 85, rfl⟩
abbrev main_call3_c_0 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_c_1 : Ref sig .tc := ⟨.hbm, 90, rfl⟩
abbrev main_call3_v5 : Ref sig .tc := ⟨.hbm, 91, rfl⟩
abbrev main_call3_v6 : Ref sig .tc := ⟨.hbm, 92, rfl⟩
abbrev main_call3_c_2 : Ref sig .tc := ⟨.hbm, 93, rfl⟩
abbrev main_call3_v7 : Ref sig .tc := ⟨.hbm, 94, rfl⟩
abbrev main_call3_v8 : Ref sig .tc := ⟨.hbm, 95, rfl⟩
abbrev main_call3_c_3 : Ref sig .tc := ⟨.hbm, 96, rfl⟩
abbrev main_call3_v9 : Ref sig .tc := ⟨.hbm, 97, rfl⟩
abbrev main_call3_v10 : Ref sig .tc := ⟨.hbm, 98, rfl⟩
abbrev main_call3_v11 : Ref sig .tc := ⟨.hbm, 99, rfl⟩
abbrev main_call3_v12 : Ref sig .tc := ⟨.hbm, 100, rfl⟩
abbrev main_call3_v13 : Ref sig .tc := ⟨.hbm, 101, rfl⟩
abbrev main_call3_v14 : Ref sig .tc := ⟨.hbm, 102, rfl⟩
abbrev main_v31 : Ref sig .tc := ⟨.hbm, 103, rfl⟩
abbrev main_v32 : Ref sig .tc := ⟨.hbm, 104, rfl⟩
abbrev main_c_8 : Ref sig .tc := ⟨.hbm, 105, rfl⟩
abbrev main_v33 : Ref sig .tc := ⟨.hbm, 106, rfl⟩
abbrev main_v34 : Ref sig .tc := ⟨.hbm, 107, rfl⟩
abbrev main_c_9 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_call4_v3 : Ref sig .tc := ⟨.hbm, 112, rfl⟩
abbrev main_call4_v4 : Ref sig .tc := ⟨.hbm, 113, rfl⟩
abbrev main_call4_v5 : Ref sig .tc := ⟨.hbm, 114, rfl⟩
abbrev main_call4_v6 : Ref sig .tc := ⟨.hbm, 115, rfl⟩
abbrev main_call4_v7 : Ref sig .tc := ⟨.hbm, 116, rfl⟩
abbrev main_call4_v8 : Ref sig .tc := ⟨.hbm, 117, rfl⟩
abbrev main_call4_c : Ref sig .tc := ⟨.hbm, 118, rfl⟩
abbrev main_call4_v9 : Ref sig .tc := ⟨.hbm, 119, rfl⟩
abbrev main_call4_v10 : Ref sig .tc := ⟨.hbm, 120, rfl⟩
abbrev main_call4_v11 : Ref sig .tc := ⟨.hbm, 121, rfl⟩
abbrev main_call4_c_0 : Ref sig .tc := ⟨.hbm, 122, rfl⟩
abbrev main_call4_v12 : Ref sig .tc := ⟨.hbm, 123, rfl⟩
abbrev main_call4_v13 : Ref sig .tc := ⟨.hbm, 124, rfl⟩
abbrev main_v35 : Ref sig .tc := ⟨.hbm, 125, rfl⟩
abbrev main_v36 : Ref sig .tc := ⟨.hbm, 126, rfl⟩
abbrev main_v37 : Ref sig .tc := ⟨.hbm, 127, rfl⟩
abbrev main_v38 : Ref sig .tc := ⟨.hbm, 128, rfl⟩
abbrev main_v39 : Ref sig .tc := ⟨.hbm, 129, rfl⟩
abbrev main_v40 : Ref sig .tc := ⟨.hbm, 130, rfl⟩
abbrev main_v41 : Ref sig .tc := ⟨.hbm, 131, rfl⟩
abbrev main_v38_scv : Ref sig .scVector := ⟨.hbm, 128, rfl⟩
abbrev main_v37_scv : Ref sig .scVector := ⟨.hbm, 127, rfl⟩
abbrev main_v39_scv : Ref sig .scVector := ⟨.hbm, 129, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg1_0 : Ref sig .tc := ⟨.vmem, 6, rfl⟩
abbrev cc2_scratch0 : Ref sig .scVector := ⟨.vmem, 0, rfl⟩
abbrev cc2_scratch1 : Ref sig .scVector := ⟨.vmem, 1, rfl⟩
abbrev cc0_sem0_0 : DmaSem sig := 0
abbrev cc0_sem1_0 : DmaSem sig := 1
abbrev cc0_sem2_0 : DmaSem sig := 2
abbrev cc0_sem2_1 : DmaSem sig := 3
abbrev cc1_sem0_0 : DmaSem sig := 7
abbrev cc1_sem1_0 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![63], ![false]⟩

def k0_cond2 (i : grid0.Coords) : BitVec 1 :=
  let arg0 : BitVec 32 := BitVec.ofNat 32 (i 0).val
  let c2_i32 : BitVec 32 := 2#32
  let v3 : BitVec 32 := Scalar.addi arg0 c2_i32
  let c62_i32 : BitVec 32 := 62#32
  let v4 : BitVec 1 := Scalar.cmpi .sle v3 c62_i32
  let v5 : BitVec 32 := Scalar.extui v4
  let c0_i32_1 : BitVec 32 := 0#32
  let v6 : BitVec 1 := Scalar.cmpi .ne v5 c0_i32_1
  v6

def k0_off1 (i : grid0.Coords) : Fin 1 → Nat :=
  let arg0 : BitVec 32 := BitVec.ofNat 32 (i 0).val
  let c2_i32_49 : BitVec 32 := 2#32
  let v122 : BitVec 32 := Scalar.addi arg0 c2_i32_49
  let c3_i32_50 : BitVec 32 := 3#32
  let v123 : BitVec 32 := Scalar.remsi v122 c3_i32_50
  ![v123.toNat]
def k0_off2 (i : grid0.Coords) : Fin 3 → Nat :=
  let arg0 : BitVec 32 := BitVec.ofNat 32 (i 0).val
  let c2_i32_49 : BitVec 32 := 2#32
  let v122 : BitVec 32 := Scalar.addi arg0 c2_i32_49
  let c3_i32_50 : BitVec 32 := 3#32
  let v123 : BitVec 32 := Scalar.remsi v122 c3_i32_50
  let c0_i32_53 : BitVec 32 := 0#32
  let c0_i32_54 : BitVec 32 := 0#32
  ![v123.toNat, 0, 0]
def k0_off3 (i : grid0.Coords) : Fin 2 → Nat :=
  let c0_i32_55 : BitVec 32 := 0#32
  let arg0 : BitVec 32 := BitVec.ofNat 32 (i 0).val
  let c2_i32_51 : BitVec 32 := 2#32
  let v124 : BitVec 32 := Scalar.addi arg0 c2_i32_51
  let c15872_i32_52 : BitVec 32 := 15872#32
  let v125 : BitVec 32 := Scalar.muli v124 c15872_i32_52
  ![0, v125.toNat]
def k0_off4 (i : grid0.Coords) : Fin 1 → Nat :=
  let arg0 : BitVec 32 := BitVec.ofNat 32 (i 0).val
  let c3_i32 : BitVec 32 := 3#32
  let v7 : BitVec 32 := Scalar.remsi arg0 c3_i32
  ![v7.toNat]
def k0_off5 (i : grid0.Coords) : Fin 3 → Nat :=
  let arg0 : BitVec 32 := BitVec.ofNat 32 (i 0).val
  let c3_i32 : BitVec 32 := 3#32
  let v7 : BitVec 32 := Scalar.remsi arg0 c3_i32
  let c0_i32_2 : BitVec 32 := 0#32
  let c0_i32_3 : BitVec 32 := 0#32
  ![v7.toNat, 0, 0]
def k0_off6 (i : grid0.Coords) : Fin 2 → Nat :=
  let c0_i32_4 : BitVec 32 := 0#32
  let arg0 : BitVec 32 := BitVec.ofNat 32 (i 0).val
  let c15872_i32 : BitVec 32 := 15872#32
  let v8 : BitVec 32 := Scalar.muli arg0 c15872_i32
  ![0, v8.toNat]
def k0_off7 (i : grid0.Coords) : Fin 3 → Nat :=
  let arg0 : BitVec 32 := BitVec.ofNat 32 (i 0).val
  let c3_i32 : BitVec 32 := 3#32
  let v7 : BitVec 32 := Scalar.remsi arg0 c3_i32
  let v18 : Index := Scalar.indexCast v7
  let c0_8 : Index := 0#32
  let c0_9 : Index := 0#32
  ![v18.toNat, 0, 0]
def k0_off8 (i : grid0.Coords) : Fin 3 → Nat :=
  let arg0 : BitVec 32 := BitVec.ofNat 32 (i 0).val
  let c3_i32 : BitVec 32 := 3#32
  let v7 : BitVec 32 := Scalar.remsi arg0 c3_i32
  let v31 : Index := Scalar.indexCast v7
  let c0_14 : Index := 0#32
  let c1984 : Index := 1984#32
  ![v31.toNat, 0, 1984]
def k0_off9 (i : grid0.Coords) : Fin 3 → Nat :=
  let arg0 : BitVec 32 := BitVec.ofNat 32 (i 0).val
  let c3_i32 : BitVec 32 := 3#32
  let v7 : BitVec 32 := Scalar.remsi arg0 c3_i32
  let v44 : Index := Scalar.indexCast v7
  let c0_19 : Index := 0#32
  let c3968 : Index := 3968#32
  ![v44.toNat, 0, 3968]
def k0_off10 (i : grid0.Coords) : Fin 3 → Nat :=
  let arg0 : BitVec 32 := BitVec.ofNat 32 (i 0).val
  let c3_i32 : BitVec 32 := 3#32
  let v7 : BitVec 32 := Scalar.remsi arg0 c3_i32
  let v57 : Index := Scalar.indexCast v7
  let c0_24 : Index := 0#32
  let c5952 : Index := 5952#32
  ![v57.toNat, 0, 5952]
def k0_off11 (i : grid0.Coords) : Fin 3 → Nat :=
  let arg0 : BitVec 32 := BitVec.ofNat 32 (i 0).val
  let c3_i32 : BitVec 32 := 3#32
  let v7 : BitVec 32 := Scalar.remsi arg0 c3_i32
  let v70 : Index := Scalar.indexCast v7
  let c0_29 : Index := 0#32
  let c7936 : Index := 7936#32
  ![v70.toNat, 0, 7936]
def k0_off12 (i : grid0.Coords) : Fin 3 → Nat :=
  let arg0 : BitVec 32 := BitVec.ofNat 32 (i 0).val
  let c3_i32 : BitVec 32 := 3#32
  let v7 : BitVec 32 := Scalar.remsi arg0 c3_i32
  let v83 : Index := Scalar.indexCast v7
  let c0_34 : Index := 0#32
  let c9920 : Index := 9920#32
  ![v83.toNat, 0, 9920]
def k0_off13 (i : grid0.Coords) : Fin 3 → Nat :=
  let arg0 : BitVec 32 := BitVec.ofNat 32 (i 0).val
  let c3_i32 : BitVec 32 := 3#32
  let v7 : BitVec 32 := Scalar.remsi arg0 c3_i32
  let v96 : Index := Scalar.indexCast v7
  let c0_39 : Index := 0#32
  let c11904 : Index := 11904#32
  ![v96.toNat, 0, 11904]
def k0_off14 (i : grid0.Coords) : Fin 3 → Nat :=
  let arg0 : BitVec 32 := BitVec.ofNat 32 (i 0).val
  let c3_i32 : BitVec 32 := 3#32
  let v7 : BitVec 32 := Scalar.remsi arg0 c3_i32
  let v109 : Index := Scalar.indexCast v7
  let c0_44 : Index := 0#32
  let c13888 : Index := 13888#32
  ![v109.toNat, 0, 13888]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1984x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c15624_i32 : BitVec 32 := 15624#32
  let c0_i32 : BitVec 32 := 0#32
  let c0_i32_0 : BitVec 32 := 0#32
  ![c15624_i32.toNat, c0_i32.toNat]

abbrev stage1_0 : Fin 1 → Memref sig .tc .vmem S8x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨2, ![2, 16], ![false, false]⟩

def k2_off1 (i : grid2.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let v3 : BitVec 32 := Scalar.addi v2 c0_i32
  ![v3.toNat]
def k2_off2 (i : grid2.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let v3 : BitVec 32 := Scalar.addi v2 c0_i32
  let c0_i32_32_r1 : BitVec 32 := 0#32
  ![v3.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x200 : Shape := ⟨2, ![4096, 200]⟩
abbrev S1000000x64 : Shape := ⟨2, ![1000000, 64]⟩
abbrev S64x64 : Shape := ⟨2, ![64, 64]⟩
abbrev S64 : Shape := ⟨1, ![64]⟩
abbrev S6x64 : Shape := ⟨2, ![6, 64]⟩
abbrev S6 : Shape := ⟨1, ![6]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x64 : Shape := ⟨3, ![4096, 200, 64]⟩
abbrev S1x1x64 : Shape := ⟨3, ![1, 1, 64]⟩
abbrev S64x6 : Shape := ⟨2, ![64, 6]⟩
abbrev S4096x200x6 : Shape := ⟨3, ![4096, 200, 6]⟩
abbrev S1x1x6 : Shape := ⟨3, ![1, 1, 6]⟩

abbrev nBuf : Space → Nat
  | .hbm => 54
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S1000000x64, .f32⟩
  | .hbm, ⟨2, _⟩ => ⟨S64x64, .f32⟩
  | .hbm, ⟨3, _⟩ => ⟨S64, .f32⟩
  | .hbm, ⟨4, _⟩ => ⟨S6x64, .f32⟩
  | .hbm, ⟨5, _⟩ => ⟨S6, .f32⟩
  | .hbm, ⟨6, _⟩ => ⟨S_, .i32⟩
  | .hbm, ⟨7, _⟩ => ⟨S4096x200, .i32⟩
  | .hbm, ⟨8, _⟩ => ⟨S4096x200, .i1⟩
  | .hbm, ⟨9, _⟩ => ⟨S_, .i32⟩
  | .hbm, ⟨10, _⟩ => ⟨S4096x200, .i32⟩
  | .hbm, ⟨11, _⟩ => ⟨S4096x200, .i32⟩
  | .hbm, ⟨12, _⟩ => ⟨S4096x200, .i32⟩
  | .hbm, ⟨13, _⟩ => ⟨S4096x200x1, .i32⟩
  | .hbm, ⟨14, _⟩ => ⟨S1, .i32⟩
  | .hbm, ⟨15, _⟩ => ⟨S_, .i32⟩
  | .hbm, ⟨16, _⟩ => ⟨S4096x200x1, .i32⟩
  | .hbm, ⟨17, _⟩ => ⟨S4096x200x1, .i1⟩
  | .hbm, ⟨18, _⟩ => ⟨S1x1x1, .i32⟩
  | .hbm, ⟨19, _⟩ => ⟨S4096x200x1, .i32⟩
  | .hbm, ⟨20, _⟩ => ⟨S4096x200x1, .i1⟩
  | .hbm, ⟨21, _⟩ => ⟨S4096x200x1, .i1⟩
  | .hbm, ⟨22, _⟩ => ⟨S_, .i1⟩
  | .hbm, ⟨23, _⟩ => ⟨S4096x200, .i1⟩
  | .hbm, ⟨24, _⟩ => ⟨S4096x200x64, .f32⟩
  | .hbm, ⟨25, _⟩ => ⟨S4096x200x64, .i1⟩
  | .hbm, ⟨26, _⟩ => ⟨S_, .f32⟩
  | .hbm, ⟨27, _⟩ => ⟨S4096x200x64, .f32⟩
  | .hbm, ⟨28, _⟩ => ⟨S4096x200x64, .f32⟩
  | .hbm, ⟨29, _⟩ => ⟨S64x64, .f32⟩
  | .hbm, ⟨30, _⟩ => ⟨S4096x200x64, .f32⟩
  | .hbm, ⟨31, _⟩ => ⟨S1x1x64, .f32⟩
  | .hbm, ⟨32, _⟩ => ⟨S4096x200x64, .f32⟩
  | .hbm, ⟨33, _⟩ => ⟨S4096x200x64, .f32⟩
  | .hbm, ⟨34, _⟩ => ⟨S64x6, .f32⟩
  | .hbm, ⟨35, _⟩ => ⟨S4096x200x6, .f32⟩
  | .hbm, ⟨36, _⟩ => ⟨S1x1x6, .f32⟩
  | .hbm, ⟨37, _⟩ => ⟨S4096x200x6, .f32⟩
  | .hbm, ⟨38, _⟩ => ⟨S4096x200x6, .f32⟩
  | .hbm, ⟨39, _⟩ => ⟨S_, .f32⟩
  | .hbm, ⟨40, _⟩ => ⟨S4096x200x6, .f32⟩
  | .hbm, ⟨41, _⟩ => ⟨S4096x200x6, .i1⟩
  | .hbm, ⟨42, _⟩ => ⟨S_, .f32⟩
  | .hbm, ⟨43, _⟩ => ⟨S4096x200x6, .f32⟩
  | .hbm, ⟨44, _⟩ => ⟨S4096x200x6, .i1⟩
  | .hbm, ⟨45, _⟩ => ⟨S_, .f32⟩
  | .hbm, ⟨46, _⟩ => ⟨S_, .f32⟩
  | .hbm, ⟨47, _⟩ => ⟨S4096x200x6, .f32⟩
  | .hbm, ⟨48, _⟩ => ⟨S4096x200x6, .f32⟩
  | .hbm, ⟨49, _⟩ => ⟨S4096x200x6, .f32⟩
  | .hbm, ⟨50, _⟩ => ⟨S_, .f32⟩
  | .hbm, ⟨51, _⟩ => ⟨S4096x200x6, .f32⟩
  | .hbm, ⟨52, _⟩ => ⟨S4096x200x6, .f32⟩
  | .hbm, ⟨53, _⟩ => ⟨S4096x200x6, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_call1_cst : Ref sig .tc := ⟨.hbm, 39, rfl⟩
abbrev main_call1_v0 : Ref sig .tc := ⟨.hbm, 40, rfl⟩
abbrev main_call1_v1 : Ref sig .tc := ⟨.hbm, 41, rfl⟩
abbrev main_call1_cst_0 : Ref sig .tc := ⟨.hbm, 42, rfl⟩
abbrev main_call1_v2 : Ref sig .tc := ⟨.hbm, 43, rfl⟩
abbrev main_call1_v3 : Ref sig .tc := ⟨.hbm, 44, rfl⟩
abbrev main_call1_cst_1 : Ref sig .tc := ⟨.hbm, 45, rfl⟩
abbrev main_call1_call0_v0 : Ref sig .tc := ⟨.hbm, 46, rfl⟩
abbrev main_call1_call0_v1 : Ref sig .tc := ⟨.hbm, 47, rfl⟩
abbrev main_call1_v4 : Ref sig .tc := ⟨.hbm, 48, rfl⟩
abbrev main_call1_v5 : Ref sig .tc := ⟨.hbm, 49, rfl⟩
abbrev main_call1_cst_2 : Ref sig .tc := ⟨.hbm, 50, rfl⟩
abbrev main_call1_v6 : Ref sig .tc := ⟨.hbm, 51, rfl⟩
abbrev main_call1_v7 : Ref sig .tc := ⟨.hbm, 52, rfl⟩
abbrev main_v11 : Ref sig .tc := ⟨.hbm, 53, rfl⟩

abbrev nD : Nat := 1
abbrev τ : Topo := Topo.v7x

variable {F : FTy → Type} [FloatOps F]
-- ==== Proof.Common.lean ====
/-
  What the parts of the certificate share: the program as the SparseCore launch theorem sees it (`K`, `D`, its
  `facts`), the resource algebra (the handshakes' rounds library, the two pipelines' rounds library, the transfers'
  counters), and the HBM locations the parts hand one another.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Mlp

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the two TensorCore pipelines' bodies and of the tile kernel. -/
abbrev ΛP [FloatOps F] : Labels := Pipeline.Sig Λ₀ (Fin 2) fun p => (pcfgs (F := F) p).Adm

/-- The program's one SparseCore call. -/
abbrev K [FloatOps F] : SparseCore.Cfg τ sig (ΛP (F := F)) 1 := sc (F := F)

/-- The bodies below the SparseCore call, the pipelines' regions among them. -/
abbrev D [FloatOps F] : Defs nD τ sig (Elt F) (ΛP (F := F)) := Pipeline.defs pcfgs defs₀

/-- No body recurses: no variants below, the lifted table's above. -/
abbrev 𝒱₀ : Variants := Variants.none
abbrev 𝒱 : Variants := 𝒱₀.lift
/-- The bound the tile kernel runs under. -/
abbrev v₀ : 𝒱.V := Sum.inl none

/-- The launch semaphores are distinct and outlive every region; no SparseCore's buffer is shared with its tiles. -/
theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds, the pipelines' rounds, and the product with the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The whole user component inside the machine's algebra. -/
abbrev EU : Emb UU (MT nD τ sig (HIx 1) (Elt F) ℕ UU ℕ) :=
  (uEmb (nD := nD) (sig := sig) (Ix := HIx 1) (Val := Elt F) (Name := ℕ) (U := UU) (Lvl := ℕ)).toEmb

/-- The handshakes' copy of the rounds library, -/
def EH : Emb UH (MT nD τ sig (HIx 1) (Elt F) ℕ UU ℕ) := (Emb.inl : Emb UH UU).trans EU
/-- and the pipelines'. -/
def EP : Emb UP (MT nD τ sig (HIx 1) (Elt F) ℕ UU ℕ) :=
  (Emb.inl : Emb UP (UP × Counters)).trans ((Emb.inr : Emb (UP × Counters) UU).trans EU)

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## The locations the parts hand one another -/

/-- A TensorCore buffer of device `d`, as a location. -/
abbrev tcLoc (d : Dev nD) (b : Ref sig .tc) : Loc nD τ sig := (T d : Thread nD τ).loc b

end Cert.Mlp

end
-- ==== Proof.Ring0.lean ====
module

public import proofs.«01_k».proof.Proof.Common
public import proofs.«01_k».proof.Proof.Gen.KernelIdeal.Launch
public import proofs.«01_k».proof.Proof.Gen.KernelIdeal.Points
public import proofs.«01_k».proof.Proof.Gen.KernelIdeal.Regions
public import Idealize.ShloMosaic.Lib.Ring
public import Idealize.ShloMosaic.Lib.Writes
public import Idealize.ShloMosaic.Lib.ViewIndex
public import Idealize.ShloMosaic.Lib.ValueIdx

@[expose] public section

noncomputable section

namespace Cert.Mlp

open Cert.KernelIdeal Cert.KernelIdeal.Gen

open Idealize.ShloMosaic
open Idealize.ShloMosaic.ValueIdx (ix1 ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The ring of three slots -/

/-- The transposed table, the ring buffer. -/
abbrev colM : Memref sig .tc .hbm S64x1000000 .f32 := Memref.whole main_v10
abbrev ringM : Memref sig .tc .vmem S3x64x15872 .f32 := Memref.whole cc0_scratch0

/-- A block of columns of the transposed table, at an offset; -/
abbrev srcAt (o : Fin 2 → ℕ) (h : ∀ a, o a + S64x15872.size a ≤ S64x1000000.size a) : Memref sig .tc .hbm S64x15872 .f32 :=
  colM.slice (Rect.unit (s := S64x1000000) o S64x15872.size h) (fun _ => rfl)

/-- a slot of the ring buffer; -/
abbrev slotAt (o : Fin 3 → ℕ) (h : ∀ a, o a + S1x64x15872.size a ≤ S3x64x15872.size a) : Memref sig .tc .vmem S64x15872 .f32 :=
  (ringM.slice (Rect.unit (s := S3x64x15872) o S1x64x15872.size h) (fun _ => rfl)).squeeze S64x15872 squeezes_S1x64x15872_S64x15872

/-- a slot's semaphore. -/
abbrev semAt (o : Fin 1 → ℕ) (h : ∀ a, o a + S1.size a ≤ S3.size a) : DmaSem sig :=
  ((cc0_scratch1.slice (Rect.unit (s := S3) o S1.size h)).squeeze S_ squeezes_S1_S_).sem

theorem src_inb (b : Fin 63) : ∀ a, (![0, 15872 * b.val] : Fin 2 → ℕ) a + S64x15872.size a ≤ S64x1000000.size a := by
  intro a; have := b.isLt
  match a with
  | 0 => show 0 + 64 ≤ 64; omega
  | 1 => show 15872 * b.val + 15872 ≤ 1000000; omega

theorem slot_inb (s : Fin 3) : ∀ a, (![s.val, 0, 0] : Fin 3 → ℕ) a + S1x64x15872.size a ≤ S3x64x15872.size a := by
  intro a; have := s.isLt
  match a with
  | 0 => show s.val + 1 ≤ 3; omega
  | 1 => show 0 + 64 ≤ 64; omega
  | 2 => show 0 + 15872 ≤ 15872; omega

theorem sem_inb (s : Fin 3) : ∀ a, (![s.val] : Fin 1 → ℕ) a + S1.size a ≤ S3.size a := by
  intro a; have := s.isLt
  match a with
  | 0 => show s.val + 1 ≤ 3; omega

section Ring

variable (d : Dev nD)

/-- The transposed table's location, and the ring buffer's. -/
abbrev colLoc : Loc nD τ sig := tcLoc d main_v10
abbrev ringLoc : Loc nD τ sig := tcLoc d cc0_scratch0

/-- Slot `s` at contents `f`; -/
def slotPts (s : Fin 3) (f : Buf (Elt F) (ringLoc d)) : sProp 𝕄 :=
  ringLoc d ↦[(slotAt ![s.val, 0, 0] (slot_inb s)).view.set]{fullShare} f
/-- its semaphore at zero; -/
def cellPts (s : Fin 3) : sProp 𝕄 := semVal (T d, SemLoc.dma (semAt ![s.val] (sem_inb s))) 0
/-- block `b` of the transposed table. -/
def homePts (A : Buf (Elt F) (colLoc d)) (b : Fin 63) : sProp 𝕄 :=
  colLoc d ↦[(srcAt ![0, 15872 * b.val] (src_inb b)).view.set]{fullShare} A

/-- The amount a copy of one block counts. -/
abbrev amt : ℕ := (slotAt ![0, 0, 0] (slot_inb 0)).view.dmaCredit

theorem amt_pos : 0 < amt := by decide

/-- The copy of block `b` into slot `s` under way. -/
def flightPts (A : Buf (Elt F) (colLoc d)) (s : Fin 3) (b : Fin 63) (f : Buf (Elt F) (ringLoc d)) : sProp 𝕄 :=
  Transfers.Flight countersEmb (T d) (.dma (semAt ![s.val] (sem_inb s))) (none : HIx 1) amt
    iprop((ringLoc d ↦[(slotAt ![s.val, 0, 0] (slot_inb s)).view.set]{fullShare}
        (slotAt ![s.val, 0, 0] (slot_inb s)).view.write (Elt F) f
          ((srcAt ![0, 15872 * b.val] (src_inb b)).view.read (Elt F) A) Finset.univ) ∗ homePts d A b)

/-- What a landed block leaves in its slot: row `j`, column `k` holds the block's column `k` of row `j`. -/
def landed (A : Buf (Elt F) (colLoc d)) (b : Fin 63) : Buf (Elt F) (ringLoc d) :=
  fun x : S3x64x15872.Idx => (A : FVec F S64x1000000 .f32) (ix2 (x 1) ⟨15872 * b.val + (x 2).val, by
    have := b.isLt; have h : (x 2).val < 15872 := (x 2).isLt; show _ < 1000000; omega⟩)

theorem slotAt_emb (s : Fin 3) (y : S64x15872.Idx) :
    ((slotAt ![s.val, 0, 0] (slot_inb s)).view.emb y : S3x64x15872.Idx)
      = (Rect.unit (s := S3x64x15872) ![s.val, 0, 0] S1x64x15872.size (slot_inb s)).emb (Fin.cons ⟨0, Nat.one_pos⟩ y) :=
  congrArg (Rect.unit (s := S3x64x15872) ![s.val, 0, 0] S1x64x15872.size (slot_inb s)).emb
    (Shape.reshapeEquiv_cons_one (n := 2) (d := ![64, 15872]) _ y)

/-- A landed copy's contents, on the slot. -/
theorem landed_eq (A : Buf (Elt F) (colLoc d)) (s : Fin 3) (b : Fin 63) (f : Buf (Elt F) (ringLoc d)) :
    ∀ i ∈ (slotAt ![s.val, 0, 0] (slot_inb s)).view.set,
      (slotAt ![s.val, 0, 0] (slot_inb s)).view.write (Elt F) f ((srcAt ![0, 15872 * b.val] (src_inb b)).view.read (Elt F) A) Finset.univ i
        = landed d A b i := by
  intro i hi
  obtain ⟨y, -, rfl⟩ := Finset.mem_map.mp hi
  refine ((View.read_apply _ _).trans (cast_eq _ _)).symm.trans ((View.read_write_of_mem _ _ (Finset.mem_univ y)).trans ?_)
  refine ((View.read_apply _ _).trans (cast_eq _ _)).trans ?_
  unfold landed
  rw [slotAt_emb s y]
  refine congrArg (A : S64x1000000.Idx → F .f32) ?_
  funext a
  refine Fin.ext ?_
  match a with
  | 0 => show 0 + 1 * (y 0).val = 0 + 1 * (y 0).val; rfl
  | 1 => show 15872 * b.val + 1 * (y 1).val = 15872 * b.val + (0 + 1 * (y 1).val); omega

set_option maxHeartbeats 400000 in
/-- A copy started. -/
theorem issue_wp (A : Buf (Elt F) (colLoc d)) (s : Fin 3) (b : Fin 63) (o1 : Fin 1 → ℕ) (o2 : Fin 3 → ℕ) (o3 : Fin 2 → ℕ)
    (h1 : ∀ a, o1 a + S1.size a ≤ S3.size a) (h2 : ∀ a, o2 a + S1x64x15872.size a ≤ S3x64x15872.size a)
    (h3 : ∀ a, o3 a + S64x15872.size a ≤ S64x1000000.size a) (e1 : o1 = ![s.val]) (e2 : o2 = ![s.val, 0, 0]) (e3 : o3 = ![0, 15872 * b.val])
    (f : Buf (Elt F) (ringLoc d)) :
    iprop(homePts d A b ∗ slotPts d s f ∗ cellPts d s)
      ⊢ wp frame (wpE (defs₀ (F := F)) 𝒱₀ (T d) none) Set.univ
          (Prog.lift (.enqueueDma (srcAt o3 h3) (.here (slotAt o2 h2)) (.dma (semAt o1 h1)) (View.wordExact_bits rfl)
            ((View.wordExact_bits rfl).reshape _ _) ⟨Or.inl rfl, trivial⟩) : Prog (TpuEff nD τ sig (Elt F) Λ₀ .tc) PUnit)
          fun _ => (flightPts d A s b f : sProp 𝕄) := by
  subst e1 e2 e3
  unfold homePts slotPts cellPts flightPts
  iintro ⟨Hs, Hd, Hv⟩
  iapply (Transfers.wp_dmaLocal (Val := Elt F) (src := srcAt ![0, 15872 * b.val] h3) (dst := slotAt ![s.val, 0, 0] h2) countersEmb 𝒱₀ (T d) none (none : HIx 1) amt rfl
    amt_pos subset_rfl) $$ [Hs Hd Hv]
  · isplitl [Hs]; · iexact Hs
    isplitl [Hd] <;> iassumption
  iintro Hf
  rw [wp_ret]; imodintro
  iexact Hf

set_option maxHeartbeats 400000 in
/-- A copy waited for: its block is in the slot. -/
theorem wait_wp (A : Buf (Elt F) (colLoc d)) (s : Fin 3) (b : Fin 63) (o1 : Fin 1 → ℕ) (o2 : Fin 3 → ℕ) (o3 : Fin 2 → ℕ)
    (h1 : ∀ a, o1 a + S1.size a ≤ S3.size a) (h2 : ∀ a, o2 a + S1x64x15872.size a ≤ S3x64x15872.size a)
    (h3 : ∀ a, o3 a + S64x15872.size a ≤ S64x1000000.size a) (e1 : o1 = ![s.val]) (e2 : o2 = ![s.val, 0, 0]) (e3 : o3 = ![0, 15872 * b.val])
    (f : Buf (Elt F) (ringLoc d)) (O : CellTallies nD τ sig (HIx 1)) (W : Waits sig (HIx 1)) :
    iprop(Transfers.MayWaits (T d) (none : HIx 1) O ∗ flightPts d A s b f ∗ owes (T d) O W)
      ⊢ wp frame (wpE (defs₀ (F := F)) 𝒱₀ (T d) none) Set.univ
          (Prog.lift (.waitDma2 (semAt o1 h1) (srcAt o3 h3) (slotAt o2 h2) (View.wordExact_bits rfl)
            ((View.wordExact_bits rfl).reshape _ _)) : Prog (TpuEff nD τ sig (Elt F) Λ₀ .tc) PUnit)
          fun _ => (iprop(slotPts d s (landed d A b) ∗ homePts d A b ∗ cellPts d s
            ∗ owes (T d) O (insert (SemLoc.dma (semAt ![s.val] (sem_inb s)), none) W)) : sProp 𝕄) := by
  subst e1 e2 e3
  unfold flightPts
  iintro ⟨Hmw, Hf, HO⟩
  iapply (Transfers.wp_waitLocalO (Val := Elt F) (dstw := slotAt ![s.val, 0, 0] h2) countersEmb 𝒱₀ (T d) none (none : HIx 1) (N := amt) rfl) $$ [Hmw Hf HO]
  · isplitl [Hf]; · iexact Hf
    isplitl [HO]; · iexact HO
    iapply (Transfers.MayWaits.elim _) $$ Hmw
  iintro ⟨⟨Hd, Hs⟩, Hv, HO⟩
  rw [wp_ret]; imodintro
  isplitl [Hd]
  · unfold slotPts
    iapply (Entails.of_eq (pointsTo_congr (landed_eq d A s b f))) $$ Hd
  isplitl [Hs]; · iexact Hs
  isplitl [Hv]; · unfold cellPts; iexact Hv
  iexact HO

end Ring

/-! ## One stripe of eight -/

/-- One stripe: 1984 columns of the slot, through the layer, into sixteen columns of the output block. -/
def stripe (v15 : FVec F S64x16 .f32) (v17 : FVec F S1x16 .f32) (a4 : Memref sig .tc .vmem S1984x128 .f32)
    (o : Fin 3 → ℕ) (ho : ∀ a, o a + S1x64x1984.size a ≤ S3x64x15872.size a)
    (p : Fin 2 → ℕ) (hp : ∀ a, p a + S1984x16.size a ≤ S1984x128.size a) : Prog (TpuEff nD τ sig (Elt F) Λ₀ .tc) PUnit := do
  let x : Vec F S1x64x1984 .f32 ← Prog.lift (.load ringM (Rect.unit (s := S3x64x15872) o S1x64x1984.size ho).toLoadRect (View.loadsAt_vmem h_S1x64x1984))
  let _ : Vec F S1984x16 .f32 ← Prog.lift (.load a4 (Rect.unit (s := S1984x128) p S1984x16.size hp).toLoadRect (View.loadsAt_vmem h_S1984x16))
  Prog.lift (.store a4 (Rect.unit (s := S1984x128) p S1984x16.size hp) (k0_pay1 v15 v17 x) Finset.univ (View.stores_vmem_bits_univ h_S1984x16 rfl) (.inl rfl))

/-- The table's columns a stripe reads: row `j`, column `c` at the stripe's offset. -/
def stripeIn (A : FVec F S64x1000000 .f32) (n : ℕ) (hn : n + 1984 ≤ 1000000) : Vec F S1x64x1984 .f32 :=
  fun y => A (ix2 (y 1) ⟨n + (y 2).val, by have h : (y 2).val < 1984 := (y 2).isLt; show _ < 1000000; omega⟩)

section Stripe

variable (d : Dev nD)

set_option maxHeartbeats 400000 in
theorem stripe_wp (A : Buf (Elt F) (colLoc d)) (s : Fin 3) (b : Fin 63) (m : Fin 8) (v15 : FVec F S64x16 .f32) (v17 : FVec F S1x16 .f32)
    (a4 : Memref sig .tc .vmem S1984x128 .f32)
    (o : Fin 3 → ℕ) (ho : ∀ a, o a + S1x64x1984.size a ≤ S3x64x15872.size a) (eo : o = ![s.val, 0, 1984 * m.val])
    (p : Fin 2 → ℕ) (hp : ∀ a, p a + S1984x16.size a ≤ S1984x128.size a) (ep : p = ![0, 16 * m.val])
    (g : Buf (Elt F) (a4.view.loc (T d))) :
    iprop(slotPts d s (landed d A b) ∗ (a4.view.loc (T d) ↦[a4.view.set]{fullShare} g))
      ⊢ wp frame (wpE (defs₀ (F := F)) 𝒱₀ (T d) none) Set.univ (stripe v15 v17 a4 o ho p hp)
          fun _ => (iprop(slotPts d s (landed d A b) ∗ (a4.view.loc (T d) ↦[a4.view.set]{fullShare}
            (a4.view.writes (Elt F) g [⟨Rect.unit (s := S1984x128) p S1984x16.size hp, k0_pay1 v15 v17
              (stripeIn A (15872 * b.val + 1984 * m.val) (by have := b.isLt; have := m.isLt; omega))⟩]))) : sProp 𝕄) := by
  subst eo ep
  unfold slotPts stripe
  have hS : (ringM.access (Rect.unit (s := S3x64x15872) ![s.val, 0, 1984 * m.val] S1x64x1984.size ho)).set ⊆ (slotAt ![s.val, 0, 0] (slot_inb s)).view.set := by
    rw [Memref.set_view_squeeze]
    refine (View.set_slice _ _).trans_subset (subset_trans ?_ (View.set_slice _ _).symm.subset)
    refine Finset.map_subset_map.mpr fun x hx => ?_
    rw [Rect.mem_set_unit] at hx ⊢
    intro a
    have hm := m.isLt
    match a with
    | 0 => exact hx 0
    | 1 => exact hx 1
    | 2 =>
      have h2 := hx 2
      have h2' : 1984 * m.val ≤ (x 2).val ∧ (x 2).val < 1984 * m.val + 1984 := h2
      show 0 ≤ (x 2).val ∧ (x 2).val < 0 + 15872
      omega
  have e1 : (ringLoc d ↦[(slotAt ![s.val, 0, 0] (slot_inb s)).view.set]{fullShare} landed d A b : sProp 𝕄)
    = ((slotAt ![s.val, 0, 0] (slot_inb s)).view.loc (T d) ↦[(slotAt ![s.val, 0, 0] (slot_inb s)).view.set]{fullShare} landed d A b) := rfl
  rw [e1]
  iintro ⟨Hs, Hg⟩
  sl_exec
  have ex : stripe_wp.sl.x d A s b m ho = stripeIn A (15872 * b.val + 1984 * m.val) (by have := b.isLt; have := m.isLt; omega) := by
    unfold stripe_wp.sl.x
    funext y
    refine (show _ = landed d A b ((Rect.unit (s := S3x64x15872) ![s.val, 0, 1984 * m.val] S1x64x1984.size ho).emb y) from rfl).trans ?_
    unfold landed stripeIn
    refine congrArg (A : S64x1000000.Idx → F .f32) ?_
    funext a
    refine Fin.ext ?_
    match a with
    | 0 => show 0 + 1 * (y 1).val = (y 1).val; omega
    | 1 => show 15872 * b.val + (1984 * m.val + 1 * (y 2).val) = 15872 * b.val + 1984 * m.val + (y 2).val; omega
  rw [ex, wp_ret]; imodintro
  isplitl [Hs] <;> iassumption

end Stripe

/-! ## The body after its copies were started -/

/-- The body from its wait on: the wait, the layer's two operands, the eight stripes. -/
def lateProg (i : grid0.Coords) (a2 : Memref sig .tc .vmem S64x16 .f32) (a3 : Memref sig .tc .vmem S1x16 .f32) (a4 : Memref sig .tc .vmem S1984x128 .f32) :
    Prog (TpuEff nD τ sig (Elt F) Λ₀ .tc) PUnit := do
  Prog.lift (.waitDma2 (semAt (k0_off4 i) (k0_off4_inb i)) (srcAt (k0_off6 i) (k0_off6_inb i)) (slotAt (k0_off5 i) (k0_off5_inb i))
    (View.wordExact_bits rfl) ((View.wordExact_bits rfl).reshape _ _))
  let v14 : Vec F S64x16 .f32 ← Prog.lift (.load a2 (Rect.unit (s := S64x16) ![0, 0] S64x16.size inb_S64x16_S64x16_0_0).toLoadRect (View.loadsAt_vmem h_S64x16))
  let v16 : Vec F S1x16 .f32 ← Prog.lift (.load a3 (Rect.unit (s := S1x16) ![0, 0] S1x16.size inb_S1x16_S1x16_0_0).toLoadRect (View.loadsAt_vmem h_S1x16))
  stripe (k0_pay2 v14) (k0_pay3 v16) a4 (k0_off7 i) (k0_off7_inb i) ![0, 0] inb_S1984x128_S1984x16_0_0
  stripe (k0_pay2 v14) (k0_pay3 v16) a4 (k0_off8 i) (k0_off8_inb i) ![0, 16] inb_S1984x128_S1984x16_0_16
  stripe (k0_pay2 v14) (k0_pay3 v16) a4 (k0_off9 i) (k0_off9_inb i) ![0, 32] inb_S1984x128_S1984x16_0_32
  stripe (k0_pay2 v14) (k0_pay3 v16) a4 (k0_off10 i) (k0_off10_inb i) ![0, 48] inb_S1984x128_S1984x16_0_48
  stripe (k0_pay2 v14) (k0_pay3 v16) a4 (k0_off11 i) (k0_off11_inb i) ![0, 64] inb_S1984x128_S1984x16_0_64
  stripe (k0_pay2 v14) (k0_pay3 v16) a4 (k0_off12 i) (k0_off12_inb i) ![0, 80] inb_S1984x128_S1984x16_0_80
  stripe (k0_pay2 v14) (k0_pay3 v16) a4 (k0_off13 i) (k0_off13_inb i) ![0, 96] inb_S1984x128_S1984x16_0_96
  stripe (k0_pay2 v14) (k0_pay3 v16) a4 (k0_off14 i) (k0_off14_inb i) ![0, 112] inb_S1984x128_S1984x16_0_112

/-- The word the body compares its point's number with zero by. -/
def firstWord (i : grid0.Coords) : BitVec 1 := Scalar.cmpi .ne (Scalar.extui (Scalar.cmpi .eq (BitVec.ofNat 32 (i 0).val) 0#32) : BitVec 32) 0#32

/-- One copy's start, as the body writes it. -/
abbrev issueProg (o1 : Fin 1 → ℕ) (o2 : Fin 3 → ℕ) (o3 : Fin 2 → ℕ)
    (h1 : ∀ a, o1 a + S1.size a ≤ S3.size a) (h2 : ∀ a, o2 a + S1x64x15872.size a ≤ S3x64x15872.size a)
    (h3 : ∀ a, o3 a + S64x15872.size a ≤ S64x1000000.size a) : Prog (TpuEff nD τ sig (Elt F) Λ₀ .tc) PUnit :=
  Prog.lift (.enqueueDma (srcAt o3 h3) (.here (slotAt o2 h2)) (.dma (semAt o1 h1)) (View.wordExact_bits rfl)
    ((View.wordExact_bits rfl).reshape _ _) ⟨Or.inl rfl, trivial⟩)

section BodyEq

variable (i : grid0.Coords) (a2 : Memref sig .tc .vmem S64x16 .f32) (w2 : a2.IsWhole) (a3 : Memref sig .tc .vmem S1x16 .f32) (w3 : a3.IsWhole)
  (a4 : Memref sig .tc .vmem S1984x128 .f32) (w4 : a4.IsWhole)

/-- The body as called. -/
abbrev bodyProg : Prog (TpuEff nD τ sig (Elt F) Λ₀ .tc) PUnit :=
  cc0__mlp_body i colM (Memref.isWhole_whole _) a2 w2 a3 w3 a4 w4 ringM (Memref.isWhole_whole _) cc0_scratch1

/-- At a point that starts no copy; -/
theorem body_tail (hf : ¬ firstWord i = 1#1) (hn : ¬ k0_cond2 i = 1#1) :
    bodyProg (F := F) i a2 w2 a3 w3 a4 w4 = lateProg i a2 a3 a4 := by
  unfold firstWord at hf
  unfold bodyProg
  rw [cc0__mlp_body_eq_skeleton]
  unfold cc0__mlp_body_skel
  rw [k0_part1_eq_skeleton]
  unfold k0_part1_skel
  simp only [dif_neg hf, dif_neg hn]
  rfl

/-- at a point after the first that starts one; -/
theorem body_mid (hf : ¬ firstWord i = 1#1) (hn : k0_cond2 i = 1#1) :
    bodyProg (F := F) i a2 w2 a3 w3 a4 w4 = (do
      issueProg (k0_off1 i) (k0_off2 i) (k0_off3 i) (k0_off1_inb i hn) (k0_off2_inb i hn) (k0_off3_inb i hn)
      lateProg i a2 a3 a4) := by
  unfold firstWord at hf
  unfold bodyProg
  rw [cc0__mlp_body_eq_skeleton]
  unfold cc0__mlp_body_skel
  rw [k0_part1_eq_skeleton]
  unfold k0_part1_skel
  simp only [dif_neg hf, dif_pos hn]
  rfl

/-- at the first point. -/
theorem body_first (hf : firstWord i = 1#1) (hn : k0_cond2 i = 1#1) :
    bodyProg (F := F) i a2 w2 a3 w3 a4 w4 = (do
      issueProg ![0] ![0, 0, 0] ![0, 0] inb_S3_S1_0 inb_S3x64x15872_S1x64x15872_0_0_0 inb_S64x1000000_S64x15872_0_0
      issueProg ![1] ![1, 0, 0] ![0, 15872] inb_S3_S1_1 inb_S3x64x15872_S1x64x15872_1_0_0 inb_S64x1000000_S64x15872_0_15872
      issueProg (k0_off1 i) (k0_off2 i) (k0_off3 i) (k0_off1_inb i hn) (k0_off2_inb i hn) (k0_off3_inb i hn)
      lateProg i a2 a3 a4) := by
  unfold firstWord at hf
  unfold bodyProg
  rw [cc0__mlp_body_eq_skeleton]
  unfold cc0__mlp_body_skel
  rw [k0_part1_eq_skeleton]
  unfold k0_part1_skel
  simp only [dif_pos hf, dif_pos hn]
  rfl

end BodyEq

end Cert.Mlp

end
-- ==== Proof.Ring1.lean ====
module

public import proofs.«01_k».proof.Proof.Common
public import proofs.«01_k».proof.Proof.Gen.KernelIdeal.Launch
public import proofs.«01_k».proof.Proof.Gen.KernelIdeal.Points
public import proofs.«01_k».proof.Proof.Gen.KernelIdeal.Regions
public import Idealize.ShloMosaic.Lib.Ring
public import Idealize.ShloMosaic.Lib.Writes
public import Idealize.ShloMosaic.Lib.ViewIndex
public import Idealize.ShloMosaic.Lib.ValueIdx
public import Idealize.ShloMosaic.Lib.VecWindow
public import proofs.«01_k».proof.Proof.Ring0

@[expose] public section

noncomputable section

namespace Cert.Mlp

open Cert.KernelIdeal Cert.KernelIdeal.Gen

open Idealize.ShloMosaic
open Idealize.ShloMosaic.ValueIdx (ix1 ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The ring of three slots -/

/-! ## The body from its wait on -/

/-- The elements of stripe `m` of the output block of column block `b`. -/
theorem stripe_bound (b : Fin 63) (k : ℕ) (h : k < 128) : 15872 * b.val + 1984 * (k / 16) + 1984 ≤ 1000000 := by
  have := b.isLt; omega

/-- The output block of column block `b`: lane `16 m + r` of row `g` is unit `r` of the layer at column
    `15872 b + 1984 m + g`. -/
def outBlk (A : FVec F S64x1000000 .f32) (b : Fin 63) (v14 : FVec F S64x16 .f32) (v16 : FVec F S1x16 .f32) : Vec F S1984x128 .f32 :=
  fun y => k0_pay1 (k0_pay2 v14) (k0_pay3 v16) (stripeIn A (15872 * b.val + 1984 * ((y 1).val / 16)) (stripe_bound b _ (y 1).isLt))
    (ix2 (y 0) ⟨(y 1).val % 16, Nat.mod_lt _ (by decide)⟩)

section Late

variable (d : Dev nD)

/-- The output block once its first `m` stripes are written. -/
def stripesPts (a4 : Memref sig .tc .vmem S1984x128 .f32) (G : Vec F S1984x128 .f32) (m : ℕ) : sProp 𝕄 :=
  iprop(∃ g : Buf (Elt F) (a4.view.loc (T d)), ⌜∀ y : S1984x128.Idx, (y 1).val < 16 * m → a4.view.read (Elt F) g y = G y⌝
    ∗ (a4.view.loc (T d) ↦[a4.view.set]{fullShare} g))

theorem pay_congr (A : FVec F S64x1000000 .f32) (v15 : FVec F S64x16 .f32) (v17 : FVec F S1x16 .f32) (n n' : ℕ) (e : n = n')
    (h : n + 1984 ≤ 1000000) (h' : n' + 1984 ≤ 1000000) (x x' : S1984x16.Idx) (ex : x = x') :
    k0_pay1 v15 v17 (stripeIn A n h) x = k0_pay1 v15 v17 (stripeIn A n' h') x' := by
  subst e ex; rfl

/-- A read off a list of one write of sixteen lanes: the lanes below it unchanged, its own the payload. -/
theorem stripes_next {κ : Kind} {sp : Space} (v : View sig κ sp S1984x128 .f32) (g : v.ty.Contents (Elt F)) (G : Vec F S1984x128 .f32) (m : ℕ)
    (p : Fin 2 → ℕ) (hp : ∀ a, p a + S1984x16.size a ≤ S1984x128.size a) (ep : p = ![0, 16 * m]) (w : Vec F S1984x16 .f32)
    (hw : ∀ y : S1984x128.Idx, 16 * m ≤ (y 1).val → (y 1).val < 16 * (m + 1) → w (ix2 (y 0) ⟨(y 1).val % 16, Nat.mod_lt _ (by decide)⟩) = G y)
    (hg : ∀ y : S1984x128.Idx, (y 1).val < 16 * m → v.read (Elt F) g y = G y) (y : S1984x128.Idx) (hy : (y 1).val < 16 * (m + 1)) :
    v.read (Elt F) (v.writes (Elt F) g [⟨Rect.unit (s := S1984x128) p S1984x16.size hp, w⟩]) y = G y := by
  subst ep
  by_cases h : (y 1).val < 16 * m
  · exact (View.read_writes_cons_miss_of_axis v g ⟨Rect.unit (s := S1984x128) ![0, 16 * m] S1984x16.size hp, w⟩ [] y 1 (16 * m) 16 rfl rfl rfl (Or.inl h)).trans (hg y h)
  · refine (View.read_writes_cons_hit_of_coords v g (Rect.unit (s := S1984x128) ![0, 16 * m] S1984x16.size hp) w []
      (ix2 (y 0) ⟨(y 1).val % 16, Nat.mod_lt _ (by decide)⟩) y ?_).trans (hw y (by omega) hy)
    intro a
    match a with
    | 0 => show (y 0).val = 0 + 1 * (y 0).val; omega
    | 1 => show (y 1).val = 16 * m + 1 * ((y 1).val % 16); omega

/-- A stripe written extends the stripes written before it. -/
theorem stripe_step (A : Buf (Elt F) (colLoc d)) (s : Fin 3) (b : Fin 63) (m : Fin 8) (v14 : FVec F S64x16 .f32) (v16 : FVec F S1x16 .f32)
    (a4 : Memref sig .tc .vmem S1984x128 .f32)
    (o : Fin 3 → ℕ) (ho : ∀ a, o a + S1x64x1984.size a ≤ S3x64x15872.size a) (eo : o = ![s.val, 0, 1984 * m.val])
    (p : Fin 2 → ℕ) (hp : ∀ a, p a + S1984x16.size a ≤ S1984x128.size a) (ep : p = ![0, 16 * m.val]) :
    iprop(slotPts d s (landed d A b) ∗ stripesPts d a4 (outBlk A b v14 v16) m.val)
      ⊢ wp frame (wpE (defs₀ (F := F)) 𝒱₀ (T d) none) Set.univ (stripe (k0_pay2 v14) (k0_pay3 v16) a4 o ho p hp)
          fun _ => (iprop(slotPts d s (landed d A b) ∗ stripesPts d a4 (outBlk A b v14 v16) (m.val + 1)) : sProp 𝕄) := by
  unfold stripesPts
  iintro ⟨Hs, %g, %hg, Hg⟩
  iapply (wp_wand_r frame _ _)
  isplitl [Hs Hg]
  · iapply (stripe_wp d A s b m (k0_pay2 v14) (k0_pay3 v16) a4 o ho eo p hp ep g)
    isplitl [Hs] <;> iassumption
  iintro %_ ⟨Hs, Hg⟩
  isplitl [Hs]; · iexact Hs
  iexists (a4.view.writes (Elt F) g [⟨Rect.unit (s := S1984x128) p S1984x16.size hp, k0_pay1 (k0_pay2 v14) (k0_pay3 v16)
    (stripeIn A (15872 * b.val + 1984 * m.val) (by have := b.isLt; have := m.isLt; omega))⟩])
  isplitr [Hg]
  · ipureintro
    refine stripes_next a4.view g (outBlk A b v14 v16) m.val p hp ep _ (fun y h1 h2 => ?_) hg
    exact pay_congr A _ _ _ _ (by omega) _ _ _ _ rfl
  · iexact Hg

/-- A load of a whole memref held reads what it holds. -/
theorem load_whole_wp {s : Shape} (a : Memref sig .tc .vmem s .f32) (q : PosShare TreeShare) (X : s.Idx → F .f32) (o : Fin s.rank → ℕ)
    (ho : ∀ x, o x + s.size x ≤ s.size x) (hl : 0 < s.numel) :
    (owns (T d) a q X : sProp 𝕄)
      ⊢ wp frame (wpE (defs₀ (F := F)) 𝒱₀ (T d) none) Set.univ
          (Prog.lift (.load a (Rect.unit (s := s) o s.size ho).toLoadRect (View.loadsAt_vmem hl)) : Prog (TpuEff nD τ sig (Elt F) Λ₀ .tc) _)
          fun v => (iprop(⌜v = X⌝ ∗ owns (T d) a q X) : sProp 𝕄) := by
  unfold owns
  iintro ⟨%f, %hf, Hf⟩
  sl_exec
  rw [wp_ret]; imodintro
  isplitr [Hf]
  · ipureintro; exact (View.readAt_full a.view f ho).trans hf
  · iexists f
    isplitr [Hf]; · ipureintro; exact hf
    iexact Hf

/-- Two programs in sequence, the second from what the first leaves. -/
theorem seq_wp {P Q : sProp 𝕄} {p k : Prog (TpuEff nD τ sig (Elt F) Λ₀ .tc) PUnit} {Φ : PUnit → sProp 𝕄}
    (h : P ⊢ wp frame (wpE (defs₀ (F := F)) 𝒱₀ (T d) none) Set.univ p fun _ => Q)
    (h' : Q ⊢ wp frame (wpE (defs₀ (F := F)) 𝒱₀ (T d) none) Set.univ k Φ) :
    P ⊢ wp frame (wpE (defs₀ (F := F)) 𝒱₀ (T d) none) Set.univ (p >>= fun _ => k) Φ := by
  rw [wp_bind]
  exact h.trans (wp_mono frame _ _ fun _ => h')

/-- The eight stripes. -/
theorem stripes_wp (i : grid0.Coords) (s : Fin 3) (b : Fin 63) (hs : s.val = (i 0).val % 3)
    (A : Buf (Elt F) (colLoc d)) (v14 : FVec F S64x16 .f32) (v16 : FVec F S1x16 .f32) (a4 : Memref sig .tc .vmem S1984x128 .f32) :
    iprop(slotPts d s (landed d A b) ∗ stripesPts d a4 (outBlk A b v14 v16) 0)
      ⊢ wp frame (wpE (defs₀ (F := F)) 𝒱₀ (T d) none) Set.univ (do
          stripe (k0_pay2 v14) (k0_pay3 v16) a4 (k0_off7 i) (k0_off7_inb i) ![0, 0] inb_S1984x128_S1984x16_0_0
          stripe (k0_pay2 v14) (k0_pay3 v16) a4 (k0_off8 i) (k0_off8_inb i) ![0, 16] inb_S1984x128_S1984x16_0_16
          stripe (k0_pay2 v14) (k0_pay3 v16) a4 (k0_off9 i) (k0_off9_inb i) ![0, 32] inb_S1984x128_S1984x16_0_32
          stripe (k0_pay2 v14) (k0_pay3 v16) a4 (k0_off10 i) (k0_off10_inb i) ![0, 48] inb_S1984x128_S1984x16_0_48
          stripe (k0_pay2 v14) (k0_pay3 v16) a4 (k0_off11 i) (k0_off11_inb i) ![0, 64] inb_S1984x128_S1984x16_0_64
          stripe (k0_pay2 v14) (k0_pay3 v16) a4 (k0_off12 i) (k0_off12_inb i) ![0, 80] inb_S1984x128_S1984x16_0_80
          stripe (k0_pay2 v14) (k0_pay3 v16) a4 (k0_off13 i) (k0_off13_inb i) ![0, 96] inb_S1984x128_S1984x16_0_96
          stripe (k0_pay2 v14) (k0_pay3 v16) a4 (k0_off14 i) (k0_off14_inb i) ![0, 112] inb_S1984x128_S1984x16_0_112)
          fun _ => (iprop(slotPts d s (landed d A b) ∗ stripesPts d a4 (outBlk A b v14 v16) 8) : sProp 𝕄) := by
  refine seq_wp d (stripe_step d A s b 0 v14 v16 a4 _ _ ((k0_off7_eq i).trans (by rw [hs]; rfl)) _ _ rfl) ?_
  refine seq_wp d (stripe_step d A s b 1 v14 v16 a4 _ _ ((k0_off8_eq i).trans (by rw [hs]; rfl)) _ _ rfl) ?_
  refine seq_wp d (stripe_step d A s b 2 v14 v16 a4 _ _ ((k0_off9_eq i).trans (by rw [hs]; rfl)) _ _ rfl) ?_
  refine seq_wp d (stripe_step d A s b 3 v14 v16 a4 _ _ ((k0_off10_eq i).trans (by rw [hs]; rfl)) _ _ rfl) ?_
  refine seq_wp d (stripe_step d A s b 4 v14 v16 a4 _ _ ((k0_off11_eq i).trans (by rw [hs]; rfl)) _ _ rfl) ?_
  refine seq_wp d (stripe_step d A s b 5 v14 v16 a4 _ _ ((k0_off12_eq i).trans (by rw [hs]; rfl)) _ _ rfl) ?_
  refine seq_wp d (stripe_step d A s b 6 v14 v16 a4 _ _ ((k0_off13_eq i).trans (by rw [hs]; rfl)) _ _ rfl) ?_
  exact stripe_step d A s b 7 v14 v16 a4 _ _ ((k0_off14_eq i).trans (by rw [hs]; rfl)) _ _ rfl

/-- The body from its wait on: the block in flight lands and is home again, and the output block holds the layer of its columns. -/
theorem late_wp (i : grid0.Coords) (s : Fin 3) (b : Fin 63) (hs : s.val = (i 0).val % 3) (hb : b.val = (i 0).val)
    (A : Buf (Elt F) (colLoc d)) (f : Buf (Elt F) (ringLoc d)) (q2 q3 : PosShare TreeShare)
    (v14 : FVec F S64x16 .f32) (v16 : FVec F S1x16 .f32)
    (a2 : Memref sig .tc .vmem S64x16 .f32) (a3 : Memref sig .tc .vmem S1x16 .f32) (a4 : Memref sig .tc .vmem S1984x128 .f32)
    (O : CellTallies nD τ sig (HIx 1)) (W : Waits sig (HIx 1)) :
    iprop(Transfers.MayWaits (T d) (none : HIx 1) O ∗ flightPts d A s b f ∗ owes (T d) O W ∗ owns (T d) a2 q2 v14 ∗ owns (T d) a3 q3 v16
        ∗ ∃ g : Buf (Elt F) (a4.view.loc (T d)), (a4.view.loc (T d) ↦[a4.view.set]{fullShare} g))
      ⊢ wp frame (wpE (defs₀ (F := F)) 𝒱₀ (T d) none) Set.univ (lateProg i a2 a3 a4)
          fun _ => (iprop(slotPts d s (landed d A b) ∗ homePts d A b ∗ cellPts d s
            ∗ owes (T d) O (insert (SemLoc.dma (semAt ![s.val] (sem_inb s)), none) W)
            ∗ owns (T d) a2 q2 v14 ∗ owns (T d) a3 q3 v16 ∗ owns (T d) a4 fullShare (outBlk A b v14 v16)) : sProp 𝕄) := by
  unfold lateProg
  iintro ⟨Hmw, Hf, HO, H2, H3, %g, H4⟩
  rw [wp_bind]
  iapply (wp_wand_r frame _ _)
  isplitl [Hmw Hf HO]
  · iapply (wait_wp d A s b _ _ _ (k0_off4_inb i) (k0_off5_inb i) (k0_off6_inb i) ((k0_off4_eq i).trans (by rw [hs]))
      ((k0_off5_eq i).trans (by rw [hs])) ((k0_off6_eq i).trans (by rw [hb])) f O W)
    isplitl [Hmw]; · iexact Hmw
    isplitl [Hf] <;> iassumption
  iintro %_ ⟨Hs, Hh, Hc, HO⟩
  rw [wp_bind]
  iapply (wp_wand_r frame _ _)
  isplitl [H2]
  · iapply (load_whole_wp d a2 q2 v14 _ inb_S64x16_S64x16_0_0 h_S64x16) $$ H2
  iintro %_ ⟨%e2, H2⟩
  subst e2
  rw [wp_bind]
  iapply (wp_wand_r frame _ _)
  isplitl [H3]
  · iapply (load_whole_wp d a3 q3 v16 _ inb_S1x16_S1x16_0_0 h_S1x16) $$ H3
  iintro %_ ⟨%e3, H3⟩
  subst e3
  iapply (wp_wand_r frame _ _)
  isplitl [Hs H4]
  · iapply (stripes_wp d i s b hs A _ _ a4)
    isplitl [Hs]; · iexact Hs
    unfold stripesPts
    iexists g
    isplitr [H4]
    · ipureintro; intro y hy; exact absurd hy (by omega)
    · iexact H4
  iintro %_ ⟨Hs, H4⟩
  isplitl [Hs]; · iexact Hs
  isplitl [Hh]; · iexact Hh
  isplitl [Hc]; · iexact Hc
  isplitl [HO]; · iexact HO
  isplitl [H2]; · iexact H2
  isplitl [H3]; · iexact H3
  unfold stripesPts owns
  icases H4 with ⟨%g', %hg', H4⟩
  iexists g'
  isplitr [H4]
  · ipureintro; funext y; exact hg' y (by have h : (y 1).val < 128 := (y 1).isLt; omega)
  · iexact H4

end Late

end Cert.Mlp

end
-- ==== Proof.Ring2.lean ====
module

public import proofs.«01_k».proof.Proof.Common
public import proofs.«01_k».proof.Proof.Gen.KernelIdeal.Launch
public import proofs.«01_k».proof.Proof.Gen.KernelIdeal.Points
public import proofs.«01_k».proof.Proof.Gen.KernelIdeal.Regions
public import Idealize.ShloMosaic.Lib.Ring
public import Idealize.ShloMosaic.Lib.Writes
public import Idealize.ShloMosaic.Lib.ViewIndex
public import Idealize.ShloMosaic.Lib.ValueIdx
public import Idealize.ShloMosaic.Lib.VecWindow
public import proofs.«01_k».proof.Proof.Ring1

@[expose] public section

noncomputable section

namespace Cert.Mlp

open Cert.KernelIdeal Cert.KernelIdeal.Gen

open Idealize.ShloMosaic
open Idealize.ShloMosaic.ValueIdx (ix1 ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The ring of three slots -/

/-! ## The body at a point, over the ring -/

theorem firstWord_eq : ∀ i : grid0.Coords, firstWord i = 1#1 ↔ (i 0).val = 0 := by decide +kernel
theorem cond2_eq : ∀ i : grid0.Coords, k0_cond2 i = 1#1 ↔ (i 0).val + 2 < 63 := by decide +kernel

section Body

variable (d : Dev nD)

/-- The ring before point `p`: at first every slot free and every column block home, afterwards two blocks in flight. -/
def ringSt (A : Buf (Elt F) (colLoc d)) (p : ℕ) : sProp 𝕄 :=
  if p = 0 then Ring.At₀ (n := 3) (NB := 63) (C := fun _ => Buf (Elt F) (ringLoc d)) (cellPts d) (slotPts d) (homePts d A)
  else Ring.At (n := 3) (NB := 63) (C := fun _ => Buf (Elt F) (ringLoc d)) 2 (cellPts d) (slotPts d) (homePts d A) (flightPts d A) p

theorem ringSt_zero (A : Buf (Elt F) (colLoc d)) :
    (ringSt d A 0 : sProp 𝕄) = Ring.At₀ (n := 3) (NB := 63) (C := fun _ => Buf (Elt F) (ringLoc d)) (cellPts d) (slotPts d) (homePts d A) := if_pos rfl
theorem ringSt_pos (A : Buf (Elt F) (colLoc d)) (p : ℕ) (h : p ≠ 0) :
    (ringSt d A p : sProp 𝕄) = Ring.At (n := 3) (NB := 63) (C := fun _ => Buf (Elt F) (ringLoc d)) 2 (cellPts d) (slotPts d) (homePts d A) (flightPts d A) p := if_neg h

/-- What the body is given besides the ring: the debts, the layer's operands, the output block. -/
def bodyIn (a2 : Memref sig .tc .vmem S64x16 .f32) (a3 : Memref sig .tc .vmem S1x16 .f32) (a4 : Memref sig .tc .vmem S1984x128 .f32)
    (v14 : FVec F S64x16 .f32) (v16 : FVec F S1x16 .f32) (O : CellTallies nD τ sig (HIx 1)) (W : Waits sig (HIx 1)) : sProp 𝕄 :=
  iprop(Transfers.MayWaits (T d) (none : HIx 1) O ∗ owes (T d) O W ∗ owns (T d) a2 fullShare v14 ∗ owns (T d) a3 fullShare v16
    ∗ ∃ g : Buf (Elt F) (a4.view.loc (T d)), (a4.view.loc (T d) ↦[a4.view.set]{fullShare} g))

/-- What it gives back besides the ring. -/
def bodyOut (a2 : Memref sig .tc .vmem S64x16 .f32) (a3 : Memref sig .tc .vmem S1x16 .f32) (a4 : Memref sig .tc .vmem S1984x128 .f32)
    (v14 : FVec F S64x16 .f32) (v16 : FVec F S1x16 .f32) (G : Vec F S1984x128 .f32) (O : CellTallies nD τ sig (HIx 1)) (W : Waits sig (HIx 1)) : sProp 𝕄 :=
  iprop((∃ W' : Waits sig (HIx 1), ⌜∀ p ∈ W', p ∈ W ∨ p.2 = none⌝ ∗ owes (T d) O W') ∗ owns (T d) a2 fullShare v14 ∗ owns (T d) a3 fullShare v16
    ∗ owns (T d) a4 fullShare G)

/-- From the wait on, in those terms. -/
theorem late_in (i : grid0.Coords) (t : ℕ) (ht : t < 63) (hi : (i 0).val = t) (A : Buf (Elt F) (colLoc d))
    (a2 : Memref sig .tc .vmem S64x16 .f32) (a3 : Memref sig .tc .vmem S1x16 .f32) (a4 : Memref sig .tc .vmem S1984x128 .f32)
    (v14 : FVec F S64x16 .f32) (v16 : FVec F S1x16 .f32) (O : CellTallies nD τ sig (HIx 1)) (W : Waits sig (HIx 1)) :
    iprop(Ring.inflight (flightPts d A) (Ring.sl 3 t) (Ring.bk 63 t) ∗ bodyIn d a2 a3 a4 v14 v16 O W)
      ⊢ wp frame (wpE (defs₀ (F := F)) 𝒱₀ (T d) none) Set.univ (lateProg i a2 a3 a4)
          fun _ => (iprop(Ring.free (C := fun _ => Buf (Elt F) (ringLoc d)) (cellPts d) (slotPts d) (Ring.sl 3 t) ∗ homePts d A (Ring.bk 63 t)
            ∗ bodyOut d a2 a3 a4 v14 v16 (outBlk A (Ring.bk 63 t) v14 v16) O W) : sProp 𝕄) := by
  unfold bodyIn bodyOut
  iintro ⟨⟨%f, Hf⟩, Hmw, HO, H2, H3, H4⟩
  iapply (wp_wand_r frame _ _)
  isplitl [Hf Hmw HO H2 H3 H4]
  · iapply (late_wp d i (Ring.sl 3 t) (Ring.bk 63 t) (by rw [hi]; rfl) (by rw [hi]; exact Ring.bk_val ht) A f fullShare fullShare v14 v16 a2 a3 a4 O W)
    isplitl [Hmw]; · iexact Hmw
    isplitl [Hf]; · iexact Hf
    isplitl [HO]; · iexact HO
    isplitl [H2]; · iexact H2
    isplitl [H3]; · iexact H3
    iexact H4
  iintro %_ ⟨Hs, Hh, Hc, HO, H2, H3, H4⟩
  isplitl [Hs Hc]
  · isplitl [Hc]; · iexact Hc
    iexists _; iexact Hs
  isplitl [Hh]; · iexact Hh
  isplitl [HO]
  · iexists _; isplitr [HO]; swap; · iexact HO
    ipureintro
    intro p hp
    rcases Finset.mem_insert.mp hp with rfl | h
    · exact Or.inr rfl
    · exact Or.inl h
  isplitl [H2]; · iexact H2
  isplitl [H3]; · iexact H3
  iexact H4

/-- One copy started, in the ring's terms. -/
theorem issue_in (A : Buf (Elt F) (colLoc d)) (t : ℕ) (ht : t < 63) (o1 : Fin 1 → ℕ) (o2 : Fin 3 → ℕ) (o3 : Fin 2 → ℕ)
    (h1 : ∀ a, o1 a + S1.size a ≤ S3.size a) (h2 : ∀ a, o2 a + S1x64x15872.size a ≤ S3x64x15872.size a)
    (h3 : ∀ a, o3 a + S64x15872.size a ≤ S64x1000000.size a) (e1 : o1 = ![t % 3]) (e2 : o2 = ![t % 3, 0, 0]) (e3 : o3 = ![0, 15872 * t]) :
    iprop(homePts d A (Ring.bk 63 t) ∗ Ring.free (C := fun _ => Buf (Elt F) (ringLoc d)) (cellPts d) (slotPts d) (Ring.sl 3 t))
      ⊢ wp frame (wpE (defs₀ (F := F)) 𝒱₀ (T d) none) Set.univ (issueProg (F := F) o1 o2 o3 h1 h2 h3)
          fun _ => (Ring.inflight (flightPts d A) (Ring.sl 3 t) (Ring.bk 63 t) : sProp 𝕄) := by
  iintro ⟨Hh, Hc, %f, Hs⟩
  iapply (wp_wand_r frame _ _)
  isplitl [Hh Hc Hs]
  · iapply (issue_wp d A (Ring.sl 3 t) (Ring.bk 63 t) o1 o2 o3 h1 h2 h3 e1 e2 (by rw [e3, Ring.bk_val ht]) f)
    isplitl [Hh]; · iexact Hh
    isplitl [Hs] <;> iassumption
  iintro %_ Hf
  iexists f; iexact Hf

/-- The body at point `t`. -/
theorem body_wp (i : grid0.Coords) (t : ℕ) (ht : t < 63) (hi : (i 0).val = t) (A : Buf (Elt F) (colLoc d))
    (a2 : Memref sig .tc .vmem S64x16 .f32) (w2 : a2.IsWhole) (a3 : Memref sig .tc .vmem S1x16 .f32) (w3 : a3.IsWhole)
    (a4 : Memref sig .tc .vmem S1984x128 .f32) (w4 : a4.IsWhole)
    (v14 : FVec F S64x16 .f32) (v16 : FVec F S1x16 .f32) (O : CellTallies nD τ sig (HIx 1)) (W : Waits sig (HIx 1)) :
    iprop(ringSt d A t ∗ bodyIn d a2 a3 a4 v14 v16 O W)
      ⊢ wp frame (wpE (defs₀ (F := F)) 𝒱₀ (T d) none) Set.univ (bodyProg i a2 w2 a3 w3 a4 w4)
          fun _ => (iprop(ringSt d A (t + 1) ∗ bodyOut d a2 a3 a4 v14 v16 (outBlk A (Ring.bk 63 t) v14 v16) O W) : sProp 𝕄) := by
  rw [ringSt_pos d A (t + 1) (by omega)]
  by_cases h0 : t = 0
  · subst h0
    have hc : k0_cond2 i = 1#1 := (cond2_eq i).mpr (by omega)
    rw [body_first i a2 w2 a3 w3 a4 w4 ((firstWord_eq i).mpr hi) hc, ringSt_zero,
      Ring.At₀_eq3' _ _ _ 0 rfl (by decide), Ring.At3_one' _ _ _ _ 0 rfl (by decide)]
    iintro ⟨⟨⟨Hh0, Hh1, Hh2, Hrest⟩, Hs0, Hs1, Hs2⟩, Hin⟩
    rw [wp_bind]
    iapply (wp_wand_r frame _ _)
    isplitl [Hh0 Hs0]
    · iapply (issue_in d A 0 (by decide) _ _ _ _ _ _ rfl rfl rfl)
      isplitl [Hh0] <;> iassumption
    iintro %_ Hf0
    rw [wp_bind]
    iapply (wp_wand_r frame _ _)
    isplitl [Hh1 Hs1]
    · iapply (issue_in d A 1 (by decide) _ _ _ _ _ _ rfl rfl rfl)
      isplitl [Hh1] <;> iassumption
    iintro %_ Hf1
    rw [wp_bind]
    iapply (wp_wand_r frame _ _)
    isplitl [Hh2 Hs2]
    · iapply (issue_in d A 2 (by decide) _ _ _ _ _ _ ((k0_off1_eq i).trans (by rw [hi])) ((k0_off2_eq i).trans (by rw [hi])) ((k0_off3_eq i).trans (by rw [hi])))
      isplitl [Hh2] <;> iassumption
    iintro %_ Hf2
    iapply (wp_wand_r frame _ _)
    isplitl [Hf0 Hin]
    · iapply (late_in d i 0 ht hi A a2 a3 a4 v14 v16 O W)
      isplitl [Hf0] <;> iassumption
    iintro %_ ⟨Hfree, Hh0, Hout⟩
    isplitr [Hout]; swap; · iexact Hout
    isplitl [Hh0 Hrest]; · isplitl [Hh0] <;> iassumption
    isplitl [Hf1]; · iexact Hf1
    isplitl [Hf2] <;> iassumption
  · have hf : ¬ firstWord i = 1#1 := fun h => h0 (hi.symm.trans ((firstWord_eq i).mp h))
    rw [ringSt_pos d A t h0]
    by_cases h2 : t + 2 < 63
    · have hc : k0_cond2 i = 1#1 := (cond2_eq i).mpr (by omega)
      rw [body_mid i a2 w2 a3 w3 a4 w4 hf hc, Ring.At3_here _ _ _ _ t h2, Ring.At3_next _ _ _ _ t h2,
        Ring.slotAt3_next0 _ _ _ t (by omega), Ring.slotAt3_next1 _ _ _ t h2]
      iintro ⟨⟨⟨Hh2, Hrest⟩, Hf0, Hf1, Hs2⟩, Hin⟩
      rw [wp_bind]
      iapply (wp_wand_r frame _ _)
      isplitl [Hh2 Hs2]
      · iapply (issue_in d A (t + 2) h2 _ _ _ _ _ _ ((k0_off1_eq i).trans (by rw [hi])) ((k0_off2_eq i).trans (by rw [hi]))
          ((k0_off3_eq i).trans (by rw [hi]; congr 2)))
        isplitl [Hh2] <;> iassumption
      iintro %_ Hf2
      iapply (wp_wand_r frame _ _)
      isplitl [Hf0 Hin]
      · iapply (late_in d i t ht hi A a2 a3 a4 v14 v16 O W)
        isplitl [Hf0] <;> iassumption
      iintro %_ ⟨Hfree, Hh0, Hout⟩
      isplitr [Hout]; swap; · iexact Hout
      isplitl [Hh0 Hrest]; · isplitl [Hh0] <;> iassumption
      isplitl [Hf1]; · iexact Hf1
      isplitl [Hf2] <;> iassumption
    · have hc : ¬ k0_cond2 i = 1#1 := fun h => h2 (by have := (cond2_eq i).mp h; omega)
      rw [body_tail i a2 w2 a3 w3 a4 w4 hf hc, Ring.At3_here_tail _ _ _ _ t ht, Ring.At3_next_tail _ _ _ _ t (by omega) ht,
        Ring.slotAt3_tail_role]
      iintro ⟨⟨Hrest, Hf0, Hf1, Hs2⟩, Hin⟩
      iapply (wp_wand_r frame _ _)
      isplitl [Hf0 Hin]
      · iapply (late_in d i t ht hi A a2 a3 a4 v14 v16 O W)
        isplitl [Hf0] <;> iassumption
      iintro %_ ⟨Hfree, Hh0, Hout⟩
      isplitr [Hout]; swap; · iexact Hout
      isplitl [Hh0 Hrest]; · isplitl [Hh0] <;> iassumption
      isplitl [Hf1]; · iexact Hf1
      isplitl [Hs2] <;> iassumption

end Body

end Cert.Mlp

end
-- ==== Proof.Region0.lean ====
module

public import proofs.«01_k».proof.Proof.Common
public import proofs.«01_k».proof.Proof.Gen.KernelIdeal.Launch
public import proofs.«01_k».proof.Proof.Gen.KernelIdeal.Points
public import proofs.«01_k».proof.Proof.Gen.KernelIdeal.Regions
public import Idealize.ShloMosaic.Lib.Ring
public import Idealize.ShloMosaic.Lib.Writes
public import Idealize.ShloMosaic.Lib.ViewIndex
public import Idealize.ShloMosaic.Lib.ValueIdx
public import Idealize.ShloMosaic.Lib.VecWindow
public import proofs.«01_k».proof.Proof.Ring2
public import Idealize.ShloMosaic.Lib.Pipeline.RegionArrays
public import Idealize.ShloMosaic.Lib.Pipeline.FrameBody

@[expose] public section

noncomputable section

namespace Cert.Mlp

open Cert.KernelIdeal Cert.KernelIdeal.Gen

open Idealize.ShloMosaic
open Idealize.ShloMosaic.ValueIdx (ix1 ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

/-! ## The ring of three slots -/

/-! ## The first pipeline's proof data -/

/-- The recorded waits the TensorCore may have before the SparseCore call: those below the call's levels. -/
abbrev below (c : Dev nD) : Set (SemLoc sig × HIx 1) := {p | (K (F := F)).lev (T c, p.1) p.2 ≤ 8 * (inferInstance : SparseCore.Cfg.Blocks 1 1).fst 0}

section Dat0

variable (V : (c : Dev nD) → (b : Ref sig .tc) → Buf (Elt F) (tcLoc c b))

/-- The ring's slots' semaphores. -/
abbrev ringSems : Fin 3 → SemLoc sig := fun s => .dma (semAt ![s.val] (sem_inb s))

/-- The columns no block covers. -/
def spareSet (c : Dev nD) : Finset (Idx (colLoc c)) :=
  Finset.univ \ Finset.univ.biUnion fun b : Fin 63 => (srcAt ![0, 15872 * b.val] (src_inb b)).view.set

/-- The body's invariant before point `p`. -/
def Phi0 (c : Dev nD) (p : ℕ) : sProp 𝕄 :=
  iprop(levAts (K (F := F)).L (K (F := F)).lev ∗ ringSt c (V c main_v10) p
    ∗ (colLoc c ↦[spareSet c]{fullShare} V c main_v10)
    ∗ (∃ f : Buf (Elt F) (tcLoc c cc1_stg0_0), tcLoc c cc1_stg0_0 ↦{fullShare} f)
    ∗ (∃ f : Buf (Elt F) (tcLoc c cc1_stg1_0), tcLoc c cc1_stg1_0 ↦{fullShare} f))

/-- The pipeline's data: its arrays at `V`, the operands' buffers kept, the output block the layer of its columns. -/
def dat0 (c : Dev nD) : Dat τ (Elt F) (HIx 1) ℕ UU ℕ cfg0 c where
  A w := V c (Pipeline.arrRef spec0 w)
  after w t := match w with
    | ⟨0, _⟩ => V c main_v11
    | ⟨1, _⟩ => V c main_v9
    | ⟨2, _⟩ => outBlk (V c main_v10) (Ring.bk 63 t.val) (V c main_v11) (V c main_v9)
  Φ p := Phi0 V c p.val
  q _ := fullShare
  owed _ := (K (F := F)).Otc c 0
  recorded _ := below (F := F) c

theorem before0_0 (c : Dev nD) (t : Fin cfg0.N) (d) : (dat0 V c).before 0 t d = V c main_v11 := by
  have hb : ∀ t : Fin cfg0.N, (dat0 V c).blockOf 0 t = V c main_v11 := fun t => by
    funext y
    refine congrArg (V c main_v11) ?_
    funext a
    refine Fin.ext ?_
    match a with
    | 0 => show 0 * 64 + 1 * (y 0).val = (y 0).val; omega
    | 1 => show 0 * 16 + 1 * (y 1).val = (y 1).val; omega
  exact ((dat0 V c).before_in_eq_fetched 0 rfl (fun _ => rfl) (fun _ _ _ => rfl) (fun t => (hb t).symm) t d).trans (hb t)

theorem before0_1 (c : Dev nD) (t : Fin cfg0.N) (d) : (dat0 V c).before 1 t d = V c main_v9 := by
  have hb : ∀ t : Fin cfg0.N, (dat0 V c).blockOf 1 t = V c main_v9 := fun t => by
    funext y
    refine congrArg (V c main_v9) ?_
    funext a
    refine Fin.ext ?_
    match a with
    | 0 => show 0 * 1 + 1 * (y 0).val = (y 0).val; omega
    | 1 => show 0 * 16 + 1 * (y 1).val = (y 1).val; omega
  exact ((dat0 V c).before_in_eq_fetched 1 rfl (fun _ => rfl) (fun _ _ _ => rfl) (fun t => (hb t).symm) t d).trans (hb t)

theorem coords0 (t : Fin cfg0.N) : ((grid0.coords t) 0).val = t.val := by
  have h : t.val < 63 := t.isLt
  rw [Pipeline.Grid.coords_val (G := grid0) t 0 (S := 1) (B := 63) (by decide) rfl]
  omega

theorem Otc_none (c : Dev nD) (n : ℕ) (g : GSem nD τ sig) : (K (F := F)).Otc c n g none = 0 := by
  by_contra h
  have h1 := SparseCore.Cfg.lev_of_Otc_pos (K := K (F := F)) (Nat.pos_of_ne_zero h)
  exact Nat.not_succ_le_zero _ (h1.trans (Nat.le_of_eq rfl))

theorem body_obligation0 (c : Dev nD) : BodyObligation (dat0 V c) (defs₀ (F := F)) 𝒱₀ (none : HIx 1) Set.univ := fun t => by
  rw [bigSep_W0, bigSep_W0]
  rw [show (dat0 V c).Φ t.castSucc = Phi0 V c t.val from rfl, show (dat0 V c).Φ t.succ = Phi0 V c (t.val + 1) from rfl]
  unfold Phi0
  iintro ⟨⟨#Hlv, Hring, Hsp, Hs0, Hs1⟩, ⟨%W, %hW, HO⟩, ⟨%d0, H0⟩, ⟨%d1, H1⟩, ⟨%d2, H2⟩⟩
  ihave H0 := (Entails.of_eq (congrArg (fun X => owns (T c) (st0_0 t) fullShare X) (before0_0 V c t d0))) $$ H0
  ihave H1 := (Entails.of_eq (congrArg (fun X => owns (T c) (st0_1 t) fullShare X) (before0_1 V c t d1))) $$ H1
  ihave Hmw := ((K (F := F)).mayWaits_none (thr := T c) (Otc_none c 0)) $$ Hlv
  ihave H2 := (show owns (T c) (st0_2 t) fullShare ((dat0 V c).before 2 t d2) ⊢ (iprop(∃ g : Buf (Elt F) ((st0_2 t).view.loc (T c)), ((st0_2 t).view.loc (T c) ↦[(st0_2 t).view.set]{fullShare} g)) : sProp 𝕄) from by
    unfold owns; iintro ⟨%f, -, H⟩; iexists f; iexact H) $$ H2
  iapply (wp_wand_r frame _ _)
  isplitl [Hring HO H0 H1 H2 Hmw]
  · iapply (body_wp c (grid0.coords t) t.val t.isLt (coords0 t) (V c main_v10) (st0_0 t) (hstage0_0 ((cfg0.slots t 0).cast nbuf0_0)) (st0_1 t)
      (hstage0_1 ((cfg0.slots t 1).cast nbuf0_1)) (st0_2 t) (hstage0_2 ((cfg0.slots t 2).cast nbuf0_2)) (V c main_v11) (V c main_v9) ((K (F := F)).Otc c 0) W)
    isplitl [Hring]; · iexact Hring
    unfold bodyIn
    isplitl [Hmw]; · iexact Hmw
    isplitl [HO]; · iexact HO
    isplitl [H0]; · iexact H0
    isplitl [H1]; · iexact H1
    iexact H2
  unfold bodyOut
  iintro %_ ⟨Hring, ⟨%W', %hW', HO⟩, H0, H1, H2⟩
  isplitl [Hring Hsp Hs0 Hs1]
  · isplitr [Hring Hsp Hs0 Hs1]; · iexact Hlv
    isplitl [Hring]; · iexact Hring
    isplitl [Hsp]; · iexact Hsp
    isplitl [Hs0] <;> iassumption
  isplitl [HO]
  · iexists W'
    isplitr [HO]
    · ipureintro
      intro p hp
      rcases hW' p hp with h | h
      · exact hW h
      · refine Or.inl ?_
        show (K (F := F)).lev (T c, p.1) p.2 ≤ _
        rw [h]
        exact Nat.zero_le _
    · iexact HO
  isplitl [H0]; · iexact H0
  isplitl [H1]; · iexact H1
  iexact H2

end Dat0

end Cert.Mlp

end
-- ==== Proof.Region1.lean ====
module

public import proofs.«01_k».proof.Proof.Common
public import proofs.«01_k».proof.Proof.Gen.KernelIdeal.Launch
public import proofs.«01_k».proof.Proof.Gen.KernelIdeal.Points
public import proofs.«01_k».proof.Proof.Gen.KernelIdeal.Regions
public import Idealize.ShloMosaic.Lib.Ring
public import Idealize.ShloMosaic.Lib.Writes
public import Idealize.ShloMosaic.Lib.ViewIndex
public import Idealize.ShloMosaic.Lib.ValueIdx
public import Idealize.ShloMosaic.Lib.VecWindow
public import proofs.«01_k».proof.Proof.Region0
public import Idealize.ShloMosaic.Lib.Pipeline.RegionArrays
public import Idealize.ShloMosaic.Lib.Pipeline.FrameBody

@[expose] public section

noncomputable section

namespace Cert.Mlp

open Cert.KernelIdeal Cert.KernelIdeal.Gen

open Idealize.ShloMosaic
open Idealize.ShloMosaic.ValueIdx (ix1 ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

/-! ## The ring of three slots -/

/-! ## The second pipeline: eight rows put in place -/

section Copy

variable (d : Dev nD)

/-- A store over a whole memref held leaves what was stored. -/
theorem store_whole_wp {s : Shape} (a : Memref sig .tc .vmem s .f32) (w : a.IsWhole) (X : s.Idx → F .f32) (o : Fin s.rank → ℕ)
    (ho : ∀ x, o x + s.size x ≤ s.size x) (hl : 0 < s.numel) (g : Buf (Elt F) (a.view.loc (T d))) :
    (a.view.loc (T d) ↦[a.view.set]{fullShare} g : sProp 𝕄)
      ⊢ wp frame (wpE (defs₀ (F := F)) 𝒱₀ (T d) none) Set.univ
          (Prog.lift (.store a (Rect.unit (s := s) o s.size ho) X Finset.univ (View.stores_vmem_bits_univ hl rfl) (.inl rfl)) : Prog (TpuEff nD τ sig (Elt F) Λ₀ .tc) _)
          fun _ => (owns (T d) a fullShare X : sProp 𝕄) := by
  unfold owns
  iintro Hf
  sl_exec
  rw [wp_ret]; imodintro
  iexists (a.view.writes (Elt F) g [⟨Rect.unit (s := s) o s.size ho, X⟩])
  isplitr [Hf]
  · ipureintro
    funext y
    exact View.read_writes_cons_hit_of_coords a.view g (Rect.unit (s := s) o s.size ho) X [] y y (fun x => by
      show (y x).val = o x + 1 * (y x).val
      have := ho x; omega)
  · iexact Hf

end Copy

section Dat1

variable (V : (c : Dev nD) → (b : Ref sig .tc) → Buf (Elt F) (tcLoc c b))

/-- The pipeline's data: its arrays at `V`, the eight rows kept and stored. -/
def dat1 (c : Dev nD) : Dat τ (Elt F) (HIx 1) ℕ UU ℕ cfg1 c where
  A w := V c (Pipeline.arrRef spec1 w)
  after w t := match w with
    | ⟨0, _⟩ => V c main_v22
    | ⟨1, _⟩ => k1_pay1 (V c main_v22)
  Φ _ := Pipeline.scopedRest (Ix := HIx 1) (Name := ℕ) (U := UU) (Lvl := ℕ) (Val := Elt F) spec1 c
  q _ := fullShare
  owed _ := (K (F := F)).Otc c 0
  recorded _ := below (F := F) c

theorem before1_0 (c : Dev nD) (t : Fin cfg1.N) (d) : (dat1 V c).before 0 t d = V c main_v22 := by
  have hb : ∀ t : Fin cfg1.N, (dat1 V c).blockOf 0 t = V c main_v22 := fun t => by
    funext y
    refine congrArg (V c main_v22) ?_
    funext a
    refine Fin.ext ?_
    match a with
    | 0 => show 0 * 8 + 1 * (y 0).val = (y 0).val; omega
    | 1 => show 0 * 128 + 1 * (y 1).val = (y 1).val; omega
  exact ((dat1 V c).before_in_eq_fetched 0 rfl (fun _ => rfl) (fun _ _ _ => rfl) (fun t => (hb t).symm) t d).trans (hb t)

theorem body_obligation1 (c : Dev nD) : BodyObligation (dat1 V c) (defs₀ (F := F)) 𝒱₀ (none : HIx 1) Set.univ := fun t => by
  rw [bigSep_W1, bigSep_W1]
  iintro ⟨HΦ, HO, ⟨%d0, H0⟩, ⟨%d1, H1⟩⟩
  ihave H0 := (Entails.of_eq (congrArg (fun X => owns (T c) (st1_0 t) fullShare X) (before1_0 V c t d0))) $$ H0
  ihave H1 := (show owns (T c) (st1_1 t) fullShare ((dat1 V c).before 1 t d1) ⊢ (iprop(∃ g : Buf (Elt F) ((st1_1 t).view.loc (T c)), ((st1_1 t).view.loc (T c) ↦[(st1_1 t).view.set]{fullShare} g)) : sProp 𝕄) from by
    unfold owns; iintro ⟨%f, -, H⟩; iexists f; iexact H) $$ H1
  icases H1 with ⟨%g, H1⟩
  iapply (wp_wand_r frame _ _)
  isplitl [H0 H1]
  · iapply (show iprop(owns (T c) (st1_0 t) fullShare (V c main_v22) ∗ ((st1_1 t).view.loc (T c) ↦[(st1_1 t).view.set]{fullShare} g))
      ⊢ wp frame (wpE (defs₀ (F := F)) 𝒱₀ (T c) none) Set.univ (bodyAt1 t)
          fun _ => (iprop(owns (T c) (st1_0 t) fullShare (V c main_v22) ∗ owns (T c) (st1_1 t) fullShare (k1_pay1 (V c main_v22))) : sProp 𝕄) from by
      unfold bodyAt1
      rw [cc1__tail_body_eq_skeleton]
      unfold cc1__tail_body_skel
      iintro ⟨H0, H1⟩
      rw [wp_bind]
      iapply (wp_wand_r frame _ _)
      isplitl [H0]
      · iapply (load_whole_wp c (st1_0 t) fullShare (V c main_v22) _ inb_S8x128_S8x128_0_0 h_S8x128) $$ H0
      iintro %_ ⟨%e, H0⟩
      subst e
      rw [wp_bind]
      iapply (wp_wand_r frame _ _)
      isplitl [H1]
      · iapply (load_whole_wp c (st1_1 t) fullShare ((st1_1 t).view.read (Elt F) g) _ inb_S8x128_S8x128_0_0 h_S8x128)
        unfold owns; iexists g; isplitr [H1]; · ipureintro; rfl
        iexact H1
      iintro %_ ⟨-, H1⟩
      ihave H1 := (show owns (T c) (st1_1 t) fullShare ((st1_1 t).view.read (Elt F) g) ⊢ (iprop(∃ g : Buf (Elt F) ((st1_1 t).view.loc (T c)), ((st1_1 t).view.loc (T c) ↦[(st1_1 t).view.set]{fullShare} g)) : sProp 𝕄) from by
        unfold owns; iintro ⟨%f, -, H⟩; iexists f; iexact H) $$ H1
      icases H1 with ⟨%g', H1⟩
      rw [wp_bind]
      iapply (wp_wand_r frame _ _)
      isplitl [H1]
      · iapply (store_whole_wp c (st1_1 t) (hstage1_1 ((cfg1.slots t 1).cast nbuf1_1)) (k1_pay1 (V c main_v22)) _ inb_S8x128_S8x128_0_0 h_S8x128 g') $$ H1
      iintro %_ H1
      rw [wp_pure]; imodintro
      isplitl [H0] <;> iassumption)
    isplitl [H0] <;> iassumption
  iintro %_ ⟨H0, H1⟩
  isplitl [HΦ]; · iapply (show (dat1 V c).Φ t.castSucc ⊢ (dat1 V c).Φ t.succ from .rfl) $$ HΦ
  isplitl [HO]; · iapply (show (dat1 V c).owesAt none t.castSucc ⊢ (dat1 V c).owesAt none t.succ from .rfl) $$ HO
  isplitl [H0]; · iexact H0
  iexact H1

end Dat1

end Cert.Mlp

end
-- ==== Proof.Segments.lean ====
module

public import proofs.«01_k».proof.Proof.Common
public import proofs.«01_k».proof.Proof.Gen.KernelIdeal.Launch
public import proofs.«01_k».proof.Proof.Gen.KernelIdeal.Points
public import proofs.«01_k».proof.Proof.Gen.KernelIdeal.Regions
public import Idealize.ShloMosaic.Lib.Ring
public import Idealize.ShloMosaic.Lib.Writes
public import Idealize.ShloMosaic.Lib.ViewIndex
public import Idealize.ShloMosaic.Lib.ValueIdx
public import Idealize.ShloMosaic.Lib.VecWindow
public import proofs.«01_k».proof.Proof.Region1
public import Idealize.ShloMosaic.Lib.Pipeline.RegionArrays
public import Idealize.ShloMosaic.Lib.Pipeline.FrameBody

@[expose] public section

noncomputable section

namespace Cert.Mlp

open Cert.KernelIdeal Cert.KernelIdeal.Gen

open Idealize.ShloMosaic
open Idealize.ShloMosaic.ValueIdx (ix1 ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

/-! ## The two pipelines as segments of the program -/

/-- The pipelines prefetch no table. -/
abbrev adm : (p : Fin 2) → (pcfgs (F := F) p).Adm := fun p => (cfgs p).toPCfg_adm

section Split

variable (c : Dev nD)

/-- A block of columns as a rectangle of the transposed table; -/
theorem src_set (b : Fin 63) : (srcAt ![0, 15872 * b.val] (src_inb b)).view.set
    = (Rect.unit (s := S64x1000000) ![0, 15872 * b.val] S64x15872.size (src_inb b)).set :=
  View.set_slice_whole _ _

/-- two of them share nothing. -/
theorem src_disjoint (b b' : Fin 63) (h : b ≠ b') :
    Disjoint (srcAt ![0, 15872 * b.val] (src_inb b)).view.set (srcAt ![0, 15872 * b'.val] (src_inb b')).view.set := by
  rw [src_set, src_set]
  exact Ring.lead_disjoint (s := S64x1000000) 1 15872 (fun b : Fin 63 => ![0, 15872 * b.val]) S64x15872.size src_inb (fun _ => rfl) rfl b b' h

/-- A slot as a rectangle of the ring buffer; -/
theorem slot_set (s : Fin 3) : (slotAt ![s.val, 0, 0] (slot_inb s)).view.set
    = (Rect.unit (s := S3x64x15872) ![s.val, 0, 0] S1x64x15872.size (slot_inb s)).set :=
  (View.set_reshape (v := (ringM.slice (Rect.unit (s := S3x64x15872) ![s.val, 0, 0] S1x64x15872.size (slot_inb s)) (fun _ => rfl)).view)
    squeezes_S1x64x15872_S64x15872.numel_eq).trans (View.set_slice_whole _ _)

theorem slot_disjoint (s s' : Fin 3) (h : s ≠ s') :
    Disjoint (slotAt ![s.val, 0, 0] (slot_inb s)).view.set (slotAt ![s'.val, 0, 0] (slot_inb s')).view.set := by
  rw [slot_set, slot_set]
  exact Ring.lead_disjoint (s := S3x64x15872) 0 1 (fun s : Fin 3 => ![s.val, 0, 0]) S1x64x15872.size slot_inb (fun s => (Nat.one_mul _).symm) rfl s s' h

/-- the three are the whole buffer. -/
theorem slot_cover : Finset.univ.biUnion (β := Idx (ringLoc c)) (fun s : Fin 3 => (slotAt ![s.val, 0, 0] (slot_inb s)).view.set) = Finset.univ := by
  refine Eq.trans (Finset.ext fun x => ?_) (Ring.lead_cover (s := S3x64x15872) 0 1 (fun s : Fin 3 => ![s.val, 0, 0]) S1x64x15872.size slot_inb
    (fun s => (Nat.one_mul _).symm)
    (fun s a h => by match a with | 0 => exact absurd rfl h | 1 => rfl | 2 => rfl) rfl
    (fun a h => by match a with | 0 => exact absurd rfl h | 1 => rfl | 2 => rfl) rfl)
  simp only [Finset.mem_biUnion, Finset.mem_univ, true_and]
  exact exists_congr fun s => by rw [← slot_set s]

/-- The transposed table held whole is its blocks and the columns outside them. -/
theorem col_split (A : Buf (Elt F) (colLoc c)) :
    (colLoc c ↦{fullShare} A : sProp 𝕄) ⊣⊢ iprop(bigSep Finset.univ (homePts c A) ∗ (colLoc c ↦[spareSet c]{fullShare} A)) := by
  have e : (bigSep Finset.univ (homePts c A) : sProp 𝕄)
      = (colLoc c ↦[Finset.univ.biUnion fun b : Fin 63 => (srcAt ![0, 15872 * b.val] (src_inb b)).view.set]{fullShare} A) := by
    rw [pointsTo_biUnion Finset.univ _ (fun t _ t' _ h => src_disjoint t t' h)]
    rfl
  rw [e]
  exact pointsTo_split_subset (Finset.subset_univ _)

/-- The ring buffer at anything is its three slots at anything, -/
theorem slots_split : (iprop(∃ f : Buf (Elt F) (ringLoc c), ringLoc c ↦{fullShare} f) : sProp 𝕄)
    ⊢ iprop((∃ f, slotPts c 0 f) ∗ (∃ f, slotPts c 1 f) ∗ ∃ f, slotPts c 2 f) :=
  Ring.slots3_split (ℓ := ringLoc c) (fun s : Fin 3 => (slotAt ![s.val, 0, 0] (slot_inb s)).view.set) (fun s s' h => slot_disjoint s s' h) (slot_cover c)
    (slotPts c 0) (slotPts c 1) (slotPts c 2) (fun _ => rfl) (fun _ => rfl) (fun _ => rfl)
/-- and back. -/
theorem slots_join : (iprop((∃ f, slotPts c 0 f) ∗ (∃ f, slotPts c 1 f) ∗ ∃ f, slotPts c 2 f) : sProp 𝕄)
    ⊢ iprop(∃ f : Buf (Elt F) (ringLoc c), ringLoc c ↦{fullShare} f) :=
  Ring.slots3_join (ℓ := ringLoc c) (fun s : Fin 3 => (slotAt ![s.val, 0, 0] (slot_inb s)).view.set) (fun s s' h => slot_disjoint s s' h) (slot_cover c)
    (slotPts c 0) (slotPts c 1) (slotPts c 2) (fun _ => rfl) (fun _ => rfl) (fun _ => rfl)

end Split

section Segs

variable (V : (c : Dev nD) → (b : Ref sig .tc) → Buf (Elt F) (tcLoc c b))

/-- The two pipelines' data, both at arrays `V`. -/
def pdats : (p : Fin 2) → (c : Dev nD) → Dat τ (Elt F) (HIx 1) ℕ UU ℕ (Pipeline.pin (pcfgs (F := F)) adm p) c
  | ⟨0, _⟩ => fun c => dat0 V c
  | ⟨1, _⟩ => fun c => dat1 V c

/-- The waits recorded at a pipeline's end are still below the call's levels. -/
theorem owes_below {c : Dev nD} {B : Set (SemLoc sig × HIx 1)} (hB : ∀ p ∈ B, p ∈ below (F := F) c ∨ p.2 = none) :
    Pipeline.owesWithin c ((K (F := F)).Otc c 0) B
      ⊢ (Pipeline.owesWithin c ((K (F := F)).Otc c 0) (below (F := F) c) : sProp 𝕄) :=
  Pipeline.owesWithin_mono c _ fun p hp => (hB p hp).elim id fun h => by
    show (K (F := F)).lev (T c, p.1) p.2 ≤ _
    rw [h]; exact Nat.zero_le _

/-- The ring's semaphores are the kernel's own. -/
theorem ring_sems : Pipeline.OwnSemFacts spec0 ringSems := by decide

theorem cellPts_eq (c : Dev nD) (s : Fin 3) : (cellPts c s : sProp 𝕄) = semVal ((c.tc : Thread nD τ), ringSems s) 0 := rfl

set_option backward.isDefEq.respectTransparency.types false in
/-- The first pipeline: from its arrays, the ring's table among them, to its result at the array's final contents. -/
def reg0 : Pipeline.RegionSeg (pcfgs (F := F)) adm (pdats V) (none : HIx 1) defs₀ 𝒱₀ (K (F := F)).L (K (F := F)).lev 0 where
  win := launch0.win.to₀
  block_pos := launch0.block_pos
  stage_whole := launch0.stage_whole
  K := Fin 3
  osem := ringSems
  ho := ring_sems
  hbody c := (body_obligation0 V c).loose
  hwaits c := Pipeline.cellsWaits_intro _ (pdats V) none 0 c fun w s t => (K (F := F)).mayWait_none _ (Otc_none c 0)
  pre c := iprop((tcLoc c main_v10 ↦{fullShare} V c main_v10) ∗ ((tcLoc c main_v11 ↦{fullShare} V c main_v11) ∗ (tcLoc c main_v9 ↦{fullShare} V c main_v9)
    ∗ (tcLoc c main_v12 ↦{fullShare} V c main_v12)) ∗ Pipeline.owesWithin c ((K (F := F)).Otc c 0) (below (F := F) c))
  post c := iprop((tcLoc c main_v10 ↦{fullShare} V c main_v10) ∗ ((tcLoc c main_v11 ↦{fullShare} V c main_v11) ∗ (tcLoc c main_v9 ↦{fullShare} V c main_v9)
    ∗ (tcLoc c main_v12 ↦{fullShare} (dat0 V c).arrAt 2 cfg0.N)) ∗ Pipeline.owesWithin c ((K (F := F)).Otc c 0) (below (F := F) c))
  X c := iprop(levAts (K (F := F)).L (K (F := F)).lev ∗ (tcLoc c main_v10 ↦{fullShare} V c main_v10) ∗ Pipeline.ownSems0 ringSems c)
  Y c := iprop(tcLoc c main_v10 ↦{fullShare} V c main_v10)
  Z _ := BI.emp
  hentry c := by
    have ha := Pipeline.arrays_eq (p := 0) (Pipeline.pin (pcfgs (F := F)) adm) (pdats V) c launch0.arr_whole
      ((pdats V 0 c).share_full fun _ => rfl) ((pdats V 0 c).arrAt · 0)
    rw [ha, bigSep_W0]
    iintro ⟨⟨Hv, ⟨H0, H1, H2⟩, HO⟩, Hs, #Hlv⟩
    imodintro
    isplitl [H0 H1 H2]
    · isplitl [H0]; · iexact H0
      isplitl [H1]; · iexact H1
      iexact H2
    isplitr; · unfold Pipeline.prefHeld; rw [show (Finset.univ : Finset (Fin 0)) = ∅ from rfl, BI.bigSep_empty]; iempintro
    isplitl [HO]
    · iapply (Pipeline.owesWithin_mono c _ (fun _ h => Or.inl h)) $$ HO
    isplitl [Hv Hs]
    · isplitr; · iexact Hlv
      isplitl [Hv] <;> iassumption
    iempintro
  hin c := by
    rw [show (pdats V 0 c).Φ 0 = Phi0 V c 0 from rfl]
    unfold Phi0 Pipeline.ownSems0
    rw [ringSt_zero]
    unfold Ring.At₀
    rw [Ring.bigSep_fin3, Ring.bigSep_fin3]
    iintro ⟨⟨Hlv, Hv, Hs0, Hs1, Hs2⟩, -, Hr⟩
    ihave Hr := (Entails.of_eq (scopedRest0_eq c)) $$ Hr
    icases Hr with ⟨Hb, Hg0, Hg1⟩
    ihave Hv := (col_split c (V c main_v10)).1 $$ Hv
    icases Hv with ⟨Hh, Hsp⟩
    ihave Hb := (slots_split c) $$ Hb
    icases Hb with ⟨Hb0, Hb1, Hb2⟩
    isplitl [Hlv]; · iexact Hlv
    isplitl [Hh Hs0 Hs1 Hs2 Hb0 Hb1 Hb2]
    · isplitl [Hh]; · iexact Hh
      unfold Ring.free
      isplitl [Hs0 Hb0]
      · isplitl [Hs0]; · iapply (Entails.of_eq (cellPts_eq c 0).symm) $$ Hs0
        iexact Hb0
      isplitl [Hs1 Hb1]
      · isplitl [Hs1]; · iapply (Entails.of_eq (cellPts_eq c 1).symm) $$ Hs1
        iexact Hb1
      isplitl [Hs2]; · iapply (Entails.of_eq (cellPts_eq c 2).symm) $$ Hs2
      iexact Hb2
    isplitl [Hsp]; · iexact Hsp
    isplitl [Hg0]; · iexact Hg0
    iexact Hg1
  hout c := by
    rw [show (pdats V 0 c).Φ (Fin.last _) = Phi0 V c 63 from rfl]
    unfold Phi0 Pipeline.ownSems0
    rw [ringSt_pos _ _ _ (by decide), Ring.bigSep_fin3]
    iintro ⟨-, Hring, Hsp, Hg0, Hg1⟩
    ihave Hring := (Ring.free3_of_At_last _ _ _ _) $$ Hring
    unfold Ring.free
    icases Hring with ⟨Hh, ⟨Hs0, Hb0⟩, ⟨Hs1, Hb1⟩, ⟨Hs2, Hb2⟩⟩
    isplitl [Hh Hsp]
    · iapply (col_split c (V c main_v10)).2
      isplitl [Hh] <;> iassumption
    isplitl [Hs0 Hs1 Hs2]
    · isplitl [Hs0]; · iapply (Entails.of_eq (cellPts_eq c 0)) $$ Hs0
      isplitl [Hs1]; · iapply (Entails.of_eq (cellPts_eq c 1)) $$ Hs1
      iapply (Entails.of_eq (cellPts_eq c 2)) $$ Hs2
    iapply (Entails.of_eq (scopedRest0_eq c).symm)
    isplitl [Hb0 Hb1 Hb2]
    · iapply (slots_join c)
      isplitl [Hb0]; · iexact Hb0
      isplitl [Hb1]; · iexact Hb1
      iexact Hb2
    isplitl [Hg0]; · iexact Hg0
    iexact Hg1
  hexit c := by
    have ha := Pipeline.arrays_eq (p := 0) (Pipeline.pin (pcfgs (F := F)) adm) (pdats V) c launch0.arr_whole
      ((pdats V 0 c).share_full fun _ => rfl) ((pdats V 0 c).arrAt · (Pipeline.pin (pcfgs (F := F)) adm 0).N)
    rw [ha, bigSep_W0]
    rw [(pdats V 0 c).arrAt_in 0 rfl _, (pdats V 0 c).arrAt_in 1 rfl _]
    iintro ⟨⟨H0, H1, H2⟩, HO, Hv, -⟩
    imodintro
    isplitl [Hv]; · iexact Hv
    isplitl [H0 H1 H2]
    · isplitl [H0]; · iexact H0
      isplitl [H1]; · iexact H1
      iexact H2
    iapply (show (pdats V 0 c).owesAt none (Fin.last _) ⊢ Pipeline.owesWithin c ((K (F := F)).Otc c 0) (below (F := F) c) from
      owes_below (B := (pdats V 0 c).bound none (Fin.last _)) (fun p hp => hp.imp id fun ⟨_, _, h⟩ => h ▸ rfl)) $$ HO

set_option backward.isDefEq.respectTransparency.types false in
/-- The second pipeline: the eight rows written over the last block of its array. -/
def reg1 : Pipeline.RegionSeg (pcfgs (F := F)) adm (pdats V) (none : HIx 1) defs₀ 𝒱₀ (K (F := F)).L (K (F := F)).lev 1 where
  win := launch1.win.to₀
  block_pos := launch1.block_pos
  stage_whole := launch1.stage_whole
  K := PEmpty
  osem k := k.elim
  ho := Pipeline.OwnSemFacts.none _
  hbody c := (body_obligation1 V c).loose
  hwaits c := Pipeline.cellsWaits_intro _ (pdats V) none 1 c fun w s t => (K (F := F)).mayWait_none _ (Otc_none c 0)
  pre c := iprop(((tcLoc c main_v22 ↦{fullShare} V c main_v22) ∗ (tcLoc c main_v23 ↦{fullShare} V c main_v23))
    ∗ Pipeline.owesWithin c ((K (F := F)).Otc c 0) (below (F := F) c))
  post c := iprop(((tcLoc c main_v22 ↦{fullShare} V c main_v22) ∗ (tcLoc c main_v23 ↦{fullShare} (dat1 V c).arrAt 1 cfg1.N))
    ∗ Pipeline.owesWithin c ((K (F := F)).Otc c 0) (below (F := F) c))
  X _ := BI.emp
  Y _ := BI.emp
  Z _ := BI.emp
  hentry c := by
    have ha := Pipeline.arrays_eq (p := 1) (Pipeline.pin (pcfgs (F := F)) adm) (pdats V) c launch1.arr_whole
      ((pdats V 1 c).share_full fun _ => rfl) ((pdats V 1 c).arrAt · 0)
    rw [ha, bigSep_W1]
    iintro ⟨⟨⟨H0, H1⟩, HO⟩, -, -⟩
    imodintro
    isplitl [H0 H1]
    · isplitl [H0]; · iexact H0
      iexact H1
    isplitr; · unfold Pipeline.prefHeld; rw [show (Finset.univ : Finset (Fin 0)) = ∅ from rfl, BI.bigSep_empty]; iempintro
    isplitl [HO]
    · iapply (Pipeline.owesWithin_mono c _ (fun _ h => Or.inl h)) $$ HO
    isplitr <;> iempintro
  hin c := by
    rw [show (pdats V 1 c).Φ 0 = Pipeline.scopedRest spec1 c from rfl]
    iintro ⟨-, -, Hr⟩; iexact Hr
  hout c := by
    rw [Pipeline.ownSems0_none, show (pdats V 1 c).Φ (Fin.last _) = Pipeline.scopedRest spec1 c from rfl]
    iintro Hr
    isplitr; · iempintro
    isplitr; · iempintro
    iexact Hr
  hexit c := by
    have ha := Pipeline.arrays_eq (p := 1) (Pipeline.pin (pcfgs (F := F)) adm) (pdats V) c launch1.arr_whole
      ((pdats V 1 c).share_full fun _ => rfl) ((pdats V 1 c).arrAt · (Pipeline.pin (pcfgs (F := F)) adm 1).N)
    rw [ha, bigSep_W1, (pdats V 1 c).arrAt_in 0 rfl _]
    iintro ⟨⟨H0, H1⟩, HO, -, -⟩
    imodintro
    isplitl [H0 H1]
    · isplitl [H0]; · iexact H0
      iexact H1
    iapply (show (pdats V 1 c).owesAt none (Fin.last _) ⊢ Pipeline.owesWithin c ((K (F := F)).Otc c 0) (below (F := F) c) from
      owes_below (B := (pdats V 1 c).bound none (Fin.last _)) (fun p hp => hp.imp id fun ⟨_, _, h⟩ => h ▸ rfl)) $$ HO

end Segs

end Cert.Mlp

end
-- ==== Proof.HostOps.lean ====
module

public import proofs.«01_k».proof.Proof.Common
public import proofs.«01_k».proof.Proof.Gen.KernelIdeal.Launch
public import proofs.«01_k».proof.Proof.Gen.KernelIdeal.Points
public import proofs.«01_k».proof.Proof.Gen.KernelIdeal.Regions
public import Idealize.ShloMosaic.Lib.Ring
public import Idealize.ShloMosaic.Lib.StableHlo.Run
public import Idealize.ShloMosaic.Lib.Writes
public import Idealize.ShloMosaic.Lib.ViewIndex
public import Idealize.ShloMosaic.Lib.ValueIdx
public import Idealize.ShloMosaic.Lib.VecWindow
public import proofs.«01_k».proof.Proof.Segments
public import Idealize.ShloMosaic.Lib.Pipeline.RegionArrays
public import Idealize.ShloMosaic.Lib.Pipeline.FrameBody

@[expose] public section

noncomputable section

namespace Cert.Mlp

open Cert.KernelIdeal Cert.KernelIdeal.Gen

open Idealize.ShloMosaic
open Idealize.ShloMosaic.ValueIdx (ix1 ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)
open Idealize.ShloMosaic.StableHlo (TRef nullary unary binary ternary reshape seq after tcRefs nullary_bufs_sub unary_bufs_sub binary_bufs_sub ternary_bufs_sub reshape_bufs_sub forall_writes_sub_of_map forall_fresh_of_map)

variable {F : FTy → Type} [FloatOps F]

local notation "𝕄" => MT nD τ sig (HIx 1) (Elt F) ℕ UU ℕ

/-! ## The host operations of the program, in lists -/

/-- The host work before the first pipeline: the two layers folded into one map of sixteen columns, and the table transposed. -/
abbrev opsA : List (HloOp τ sig (Elt F)) :=
  [ nullary main_cst (constant S_ .f32 0x00000000#32),
    unary main_cst main_v0 (broadcastInDim S16x64 ![] bcast_S_S16x64 : (⟨S_, .f32⟩ : BufTy).Contents (Elt F) → (⟨S16x64, .f32⟩ : BufTy).Contents (Elt F)),
    nullary main_c (constantI S_ 32 0#32),
    unary main_c main_v1 (broadcastInDim S1 ![] bcast_S_S1 : (⟨S_, .i32⟩ : BufTy).Contents (Elt F) → (⟨S1, .i32⟩ : BufTy).Contents (Elt F)),
    ternary main_v0 main_v1 main_arg4 main_v2 ((fun x i u => Host.scatter scatter_S16x64_S1_S6x64_01_n_0_0 (fun _ b => b) x i u) : (⟨S16x64, .f32⟩ : BufTy).Contents (Elt F) → (⟨S1, .i32⟩ : BufTy).Contents (Elt F) → (⟨S6x64, .f32⟩ : BufTy).Contents (Elt F) → (⟨S16x64, .f32⟩ : BufTy).Contents (Elt F)),
    nullary main_cst_0 (constant S_ .f32 0x00000000#32),
    unary main_cst_0 main_v3 (broadcastInDim S16 ![] bcast_S_S16 : (⟨S_, .f32⟩ : BufTy).Contents (Elt F) → (⟨S16, .f32⟩ : BufTy).Contents (Elt F)),
    nullary main_c_1 (constantI S_ 32 0#32),
    unary main_c_1 main_v4 (broadcastInDim S1 ![] bcast_S_S1 : (⟨S_, .i32⟩ : BufTy).Contents (Elt F) → (⟨S1, .i32⟩ : BufTy).Contents (Elt F)),
    ternary main_v3 main_v4 main_arg5 main_v5 ((fun x i u => Host.scatter scatter_S16_S1_S6_0_n_0_0 (fun _ b => b) x i u) : (⟨S16, .f32⟩ : BufTy).Contents (Elt F) → (⟨S1, .i32⟩ : BufTy).Contents (Elt F) → (⟨S6, .f32⟩ : BufTy).Contents (Elt F) → (⟨S16, .f32⟩ : BufTy).Contents (Elt F)),
    binary main_v2 main_arg2 main_v6 ((fun l r => Host.dotGeneral dot_S16x64_S64x64_S16x64_1_0_0_1_n_n (some .fp32) l r) : (⟨S16x64, .f32⟩ : BufTy).Contents (Elt F) → (⟨S64x64, .f32⟩ : BufTy).Contents (Elt F) → (⟨S16x64, .f32⟩ : BufTy).Contents (Elt F)),
    binary main_v2 main_arg3 main_v7 ((fun l r => Host.dotGeneral dot_S16x64_S64_S16_1_0_0_n_n_n none l r) : (⟨S16x64, .f32⟩ : BufTy).Contents (Elt F) → (⟨S64, .f32⟩ : BufTy).Contents (Elt F) → (⟨S16, .f32⟩ : BufTy).Contents (Elt F)),
    binary main_v7 main_v5 main_v8 (addf : (⟨S16, .f32⟩ : BufTy).Contents (Elt F) → (⟨S16, .f32⟩ : BufTy).Contents (Elt F) → (⟨S16, .f32⟩ : BufTy).Contents (Elt F)),
    reshape main_v8 main_v9 (rfl : (.f32 : EltTy) = .f32) shapeCasts_S16_S1x16,
    unary main_arg1 main_v10 ((transpose S64x1000000 [1, 0] · transposes_S1000000x64_S64x1000000_1_0) : (⟨S1000000x64, .f32⟩ : BufTy).Contents (Elt F) → (⟨S64x1000000, .f32⟩ : BufTy).Contents (Elt F)),
    unary main_v6 main_v11 ((transpose S64x16 [1, 0] · transposes_S16x64_S64x16_1_0) : (⟨S16x64, .f32⟩ : BufTy).Contents (Elt F) → (⟨S64x16, .f32⟩ : BufTy).Contents (Elt F)) ]

/-- What these write, in order. -/
abbrev opsA_w : List (Ref sig .tc) :=
  [main_cst, main_v0, main_c, main_v1, main_v2, main_cst_0, main_v3, main_c_1, main_v4, main_v5, main_v6, main_v7, main_v8, main_v9, main_v10, main_v11]

theorem opsA_writes : (opsA (F := F)).Forall fun op => op.writes ⊆ (opsA_w.map (Proc.devRef (τ := τ) .tc)).toFinset :=
  forall_writes_sub_of_map rfl

theorem opsA_fresh : (opsA (F := F)).Forall fun op => op.fresh = ∅ :=
  forall_fresh_of_map rfl

theorem opsA_sub : (opsA (F := F)).Forall fun op => op.bufs ⊆ tcRefs τ sig :=
  ⟨nullary_bufs_sub .., unary_bufs_sub .., nullary_bufs_sub .., unary_bufs_sub .., ternary_bufs_sub .., nullary_bufs_sub .., unary_bufs_sub .., nullary_bufs_sub .., unary_bufs_sub .., ternary_bufs_sub .., binary_bufs_sub .., binary_bufs_sub .., binary_bufs_sub .., reshape_bufs_sub .., unary_bufs_sub .., unary_bufs_sub ..⟩

/-- The host work between the two pipelines: the last sixty-four rows of the table through the same map. -/
abbrev opsB : List (HloOp τ sig (Elt F)) :=
  [ unary main_arg1 main_v13 ((extractStridedSlice S64x64 ![999936, 0] · slices_S1000000x64_S64x64_999936_0) : (⟨S1000000x64, .f32⟩ : BufTy).Contents (Elt F) → (⟨S64x64, .f32⟩ : BufTy).Contents (Elt F)),
    unary main_v6 main_v14 ((transpose S64x16 [1, 0] · transposes_S16x64_S64x16_1_0) : (⟨S16x64, .f32⟩ : BufTy).Contents (Elt F) → (⟨S64x16, .f32⟩ : BufTy).Contents (Elt F)),
    binary main_v13 main_v14 main_v15 ((fun l r => Host.dotGeneral dot_S64x64_S64x16_S64x16_1_0_0_1_n_n (some .fp32) l r) : (⟨S64x64, .f32⟩ : BufTy).Contents (Elt F) → (⟨S64x16, .f32⟩ : BufTy).Contents (Elt F) → (⟨S64x16, .f32⟩ : BufTy).Contents (Elt F)),
    unary main_v9 main_v16 (broadcastInDim S64x16 ![0, 1] bcast_S1x16_S64x16_0_1 : (⟨S1x16, .f32⟩ : BufTy).Contents (Elt F) → (⟨S64x16, .f32⟩ : BufTy).Contents (Elt F)),
    binary main_v15 main_v16 main_v17 (addf : (⟨S64x16, .f32⟩ : BufTy).Contents (Elt F) → (⟨S64x16, .f32⟩ : BufTy).Contents (Elt F) → (⟨S64x16, .f32⟩ : BufTy).Contents (Elt F)),
    nullary main_cst_2 (constant S_ .f32 0x00000000#32),
    unary main_cst_2 main_v18 (broadcastInDim S64x16 ![] bcast_S_S64x16 : (⟨S_, .f32⟩ : BufTy).Contents (Elt F) → (⟨S64x16, .f32⟩ : BufTy).Contents (Elt F)),
    binary main_v17 main_v18 main_v19 (cmpf .ogt : (⟨S64x16, .f32⟩ : BufTy).Contents (Elt F) → (⟨S64x16, .f32⟩ : BufTy).Contents (Elt F) → (⟨S64x16, .i1⟩ : BufTy).Contents (Elt F)),
    unary main_v17 main_v20 (Host.expm1 : (⟨S64x16, .f32⟩ : BufTy).Contents (Elt F) → (⟨S64x16, .f32⟩ : BufTy).Contents (Elt F)),
    TRef.ternary (TRef.of (T := ⟨S64x16, .i1⟩) main_v19) (TRef.of (T := ⟨S64x16, .f32⟩) main_v17) (TRef.of (T := ⟨S64x16, .f32⟩) main_v20) (TRef.of (T := ⟨S64x16, .f32⟩) main_v21) select,
    reshape main_v21 main_v22 (rfl : (.f32 : EltTy) = .f32) shapeCasts_S64x16_S8x128,
    unary main_v12 main_v23 id ]

/-- What these write, in order. -/
abbrev opsB_w : List (Ref sig .tc) :=
  [main_v13, main_v14, main_v15, main_v16, main_v17, main_cst_2, main_v18, main_v19, main_v20, main_v21, main_v22, main_v23]

theorem opsB_writes : (opsB (F := F)).Forall fun op => op.writes ⊆ (opsB_w.map (Proc.devRef (τ := τ) .tc)).toFinset :=
  forall_writes_sub_of_map rfl

theorem opsB_fresh : (opsB (F := F)).Forall fun op => op.fresh = ∅ :=
  forall_fresh_of_map rfl

theorem opsB_sub : (opsB (F := F)).Forall fun op => op.bufs ⊆ tcRefs τ sig :=
  ⟨unary_bufs_sub .., unary_bufs_sub .., binary_bufs_sub .., unary_bufs_sub .., binary_bufs_sub .., nullary_bufs_sub .., unary_bufs_sub .., binary_bufs_sub .., unary_bufs_sub .., ternary_bufs_sub .., reshape_bufs_sub .., unary_bufs_sub ..⟩

/-- The tokens in one line. -/
abbrev opsC0 : List (HloOp τ sig (Elt F)) :=
  [ reshape main_arg0 main_v24 (rfl : (.i32 : EltTy) = .i32) shapeCasts_S4096x200_S819200,
    nullary main_c_3 (constantI S_ 32 15872#32) ]

/-- What these write, in order. -/
abbrev opsC0_w : List (Ref sig .tc) :=
  [main_v24, main_c_3]

theorem opsC0_writes : (opsC0 (F := F)).Forall fun op => op.writes ⊆ (opsC0_w.map (Proc.devRef (τ := τ) .tc)).toFinset :=
  forall_writes_sub_of_map rfl

theorem opsC0_fresh : (opsC0 (F := F)).Forall fun op => op.fresh = ∅ :=
  forall_fresh_of_map rfl

theorem opsC0_sub : (opsC0 (F := F)).Forall fun op => op.bufs ⊆ tcRefs τ sig :=
  ⟨reshape_bufs_sub .., nullary_bufs_sub ..⟩

/-- Tokens modulo 15872. -/
abbrev rem1 : List (HloOp τ sig (Elt F)) :=
  [ TRef.unary (TRef.of (T := ⟨S_, .i32⟩) main_c_3) (TRef.of (T := ⟨S_, .i32⟩) main_call1_v0) id,
    TRef.nullary (TRef.of (T := ⟨S_, .i32⟩) main_call1_c) (constantI S_ 32 0#32),
    TRef.binary (TRef.of (T := ⟨S_, .i32⟩) main_call1_v0) (TRef.of (T := ⟨S_, .i32⟩) main_call1_c) (TRef.of (T := ⟨S_, .i1⟩) main_call1_v1) (cmpi .eq),
    TRef.nullary (TRef.of (T := ⟨S_, .i32⟩) main_call1_c_0) (constantI S_ 32 1#32),
    TRef.ternary (TRef.of (T := ⟨S_, .i1⟩) main_call1_v1) (TRef.of (T := ⟨S_, .i32⟩) main_call1_c_0) (TRef.of (T := ⟨S_, .i32⟩) main_call1_v0) (TRef.of (T := ⟨S_, .i32⟩) main_call1_v2) select,
    TRef.unary main_call1_call0.v0 (TRef.of (T := ⟨S819200, .i32⟩) main_call1_v3) (broadcastInDim S819200 ![] bcast_S_S819200),
    TRef.binary (TRef.of (T := ⟨S819200, .i32⟩) main_v24) (TRef.of (T := ⟨S819200, .i32⟩) main_call1_v3) (TRef.of (T := ⟨S819200, .i32⟩) main_call1_v4) Host.remsi,
    TRef.nullary (TRef.of (T := ⟨S_, .i32⟩) main_call1_c_1) (constantI S_ 32 0#32),
    TRef.unary (TRef.of (T := ⟨S_, .i32⟩) main_call1_c_1) (TRef.of (T := ⟨S819200, .i32⟩) main_call1_v5) (broadcastInDim S819200 ![] bcast_S_S819200),
    TRef.binary (TRef.of (T := ⟨S819200, .i32⟩) main_call1_v4) (TRef.of (T := ⟨S819200, .i32⟩) main_call1_v5) (TRef.of (T := ⟨S819200, .i1⟩) main_call1_v6) (cmpi .ne),
    TRef.nullary (TRef.of (T := ⟨S_, .i32⟩) main_call1_c_2) (constantI S_ 32 0#32),
    TRef.unary (TRef.of (T := ⟨S_, .i32⟩) main_call1_c_2) (TRef.of (T := ⟨S819200, .i32⟩) main_call1_v7) (broadcastInDim S819200 ![] bcast_S_S819200),
    TRef.binary (TRef.of (T := ⟨S819200, .i32⟩) main_call1_v4) (TRef.of (T := ⟨S819200, .i32⟩) main_call1_v7) (TRef.of (T := ⟨S819200, .i1⟩) main_call1_v8) (cmpi .slt),
    TRef.nullary (TRef.of (T := ⟨S_, .i32⟩) main_call1_c_3) (constantI S_ 32 0#32),
    TRef.binary main_call1_call0.v0 (TRef.of (T := ⟨S_, .i32⟩) main_call1_c_3) (TRef.of (T := ⟨S_, .i1⟩) main_call1_v9) (cmpi .slt),
    TRef.unary (TRef.of (T := ⟨S_, .i1⟩) main_call1_v9) (TRef.of (T := ⟨S819200, .i1⟩) main_call1_v10) (broadcastInDim S819200 ![] bcast_S_S819200),
    TRef.binary (TRef.of (T := ⟨S819200, .i1⟩) main_call1_v8) (TRef.of (T := ⟨S819200, .i1⟩) main_call1_v10) (TRef.of (T := ⟨S819200, .i1⟩) main_call1_v11) (cmpi .ne),
    TRef.binary (TRef.of (T := ⟨S819200, .i1⟩) main_call1_v11) (TRef.of (T := ⟨S819200, .i1⟩) main_call1_v6) (TRef.of (T := ⟨S819200, .i1⟩) main_call1_v12) andi,
    TRef.unary main_call1_call0.v0 (TRef.of (T := ⟨S819200, .i32⟩) main_call1_v13) (broadcastInDim S819200 ![] bcast_S_S819200),
    TRef.binary (TRef.of (T := ⟨S819200, .i32⟩) main_call1_v4) (TRef.of (T := ⟨S819200, .i32⟩) main_call1_v13) (TRef.of (T := ⟨S819200, .i32⟩) main_call1_v14) addi,
    TRef.ternary (TRef.of (T := ⟨S819200, .i1⟩) main_call1_v12) (TRef.of (T := ⟨S819200, .i32⟩) main_call1_v14) (TRef.of (T := ⟨S819200, .i32⟩) main_call1_v4) (TRef.of (T := ⟨S819200, .i32⟩) main_v25) select ]

/-- What these write, in order. -/
abbrev rem1_w : List (Ref sig .tc) :=
  [main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v25]

theorem rem1_writes : (rem1 (F := F)).Forall fun op => op.writes ⊆ (rem1_w.map (Proc.devRef (τ := τ) .tc)).toFinset :=
  forall_writes_sub_of_map rfl

theorem rem1_fresh : (rem1 (F := F)).Forall fun op => op.fresh = ∅ :=
  forall_fresh_of_map rfl

theorem rem1_sub : (rem1 (F := F)).Forall fun op => op.bufs ⊆ tcRefs τ sig :=
  ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

/-- Which tokens the packed table holds in packed order. -/
abbrev opsC1 : List (HloOp τ sig (Elt F)) :=
  [ nullary main_c_4 (constantI S_ 32 999936#32),
    unary main_c_4 main_v26 (broadcastInDim S819200 ![] bcast_S_S819200 : (⟨S_, .i32⟩ : BufTy).Contents (Elt F) → (⟨S819200, .i32⟩ : BufTy).Contents (Elt F)),
    binary main_v24 main_v26 main_v27 (cmpi .slt : (⟨S819200, .i32⟩ : BufTy).Contents (Elt F) → (⟨S819200, .i32⟩ : BufTy).Contents (Elt F) → (⟨S819200, .i1⟩ : BufTy).Contents (Elt F)),
    nullary main_c_5 (constantI S_ 32 15872#32) ]

/-- What these write, in order. -/
abbrev opsC1_w : List (Ref sig .tc) :=
  [main_c_4, main_v26, main_v27, main_c_5]

theorem opsC1_writes : (opsC1 (F := F)).Forall fun op => op.writes ⊆ (opsC1_w.map (Proc.devRef (τ := τ) .tc)).toFinset :=
  forall_writes_sub_of_map rfl

theorem opsC1_fresh : (opsC1 (F := F)).Forall fun op => op.fresh = ∅ :=
  forall_fresh_of_map rfl

theorem opsC1_sub : (opsC1 (F := F)).Forall fun op => op.bufs ⊆ tcRefs τ sig :=
  ⟨nullary_bufs_sub .., unary_bufs_sub .., binary_bufs_sub .., nullary_bufs_sub ..⟩

/-- Tokens divided by 15872. -/
abbrev div1 : List (HloOp τ sig (Elt F)) :=
  [ TRef.unary (TRef.of (T := ⟨S_, .i32⟩) main_c_5) (TRef.of (T := ⟨S_, .i32⟩) main_call2_v0) id,
    TRef.unary (TRef.of (T := ⟨S_, .i32⟩) main_call2_v0) (TRef.of (T := ⟨S819200, .i32⟩) main_call2_v1) (broadcastInDim S819200 ![] bcast_S_S819200),
    TRef.binary (TRef.of (T := ⟨S819200, .i32⟩) main_v24) (TRef.of (T := ⟨S819200, .i32⟩) main_call2_v1) (TRef.of (T := ⟨S819200, .i32⟩) main_call2_v2) Host.divsi,
    TRef.unary (TRef.of (T := ⟨S819200, .i32⟩) main_v24) (TRef.of (T := ⟨S819200, .i32⟩) main_call2_v3) signi,
    TRef.unary (TRef.of (T := ⟨S_, .i32⟩) main_call2_v0) (TRef.of (T := ⟨S_, .i32⟩) main_call2_v4) signi,
    TRef.unary (TRef.of (T := ⟨S_, .i32⟩) main_call2_v4) (TRef.of (T := ⟨S819200, .i32⟩) main_call2_v5) (broadcastInDim S819200 ![] bcast_S_S819200),
    TRef.binary (TRef.of (T := ⟨S819200, .i32⟩) main_call2_v3) (TRef.of (T := ⟨S819200, .i32⟩) main_call2_v5) (TRef.of (T := ⟨S819200, .i1⟩) main_call2_v6) (cmpi .ne),
    TRef.unary (TRef.of (T := ⟨S_, .i32⟩) main_call2_v0) (TRef.of (T := ⟨S819200, .i32⟩) main_call2_v7) (broadcastInDim S819200 ![] bcast_S_S819200),
    TRef.binary (TRef.of (T := ⟨S819200, .i32⟩) main_v24) (TRef.of (T := ⟨S819200, .i32⟩) main_call2_v7) (TRef.of (T := ⟨S819200, .i32⟩) main_call2_v8) Host.remsi,
    TRef.nullary (TRef.of (T := ⟨S_, .i32⟩) main_call2_c) (constantI S_ 32 0#32),
    TRef.unary (TRef.of (T := ⟨S_, .i32⟩) main_call2_c) (TRef.of (T := ⟨S819200, .i32⟩) main_call2_v9) (broadcastInDim S819200 ![] bcast_S_S819200),
    TRef.binary (TRef.of (T := ⟨S819200, .i32⟩) main_call2_v8) (TRef.of (T := ⟨S819200, .i32⟩) main_call2_v9) (TRef.of (T := ⟨S819200, .i1⟩) main_call2_v10) (cmpi .ne),
    TRef.binary (TRef.of (T := ⟨S819200, .i1⟩) main_call2_v6) (TRef.of (T := ⟨S819200, .i1⟩) main_call2_v10) (TRef.of (T := ⟨S819200, .i1⟩) main_call2_v11) andi,
    TRef.nullary (TRef.of (T := ⟨S_, .i32⟩) main_call2_c_0) (constantI S_ 32 1#32),
    TRef.unary (TRef.of (T := ⟨S_, .i32⟩) main_call2_c_0) (TRef.of (T := ⟨S819200, .i32⟩) main_call2_v12) (broadcastInDim S819200 ![] bcast_S_S819200),
    TRef.binary (TRef.of (T := ⟨S819200, .i32⟩) main_call2_v2) (TRef.of (T := ⟨S819200, .i32⟩) main_call2_v12) (TRef.of (T := ⟨S819200, .i32⟩) main_call2_v13) subi,
    TRef.ternary (TRef.of (T := ⟨S819200, .i1⟩) main_call2_v11) (TRef.of (T := ⟨S819200, .i32⟩) main_call2_v13) (TRef.of (T := ⟨S819200, .i32⟩) main_call2_v2) (TRef.of (T := ⟨S819200, .i32⟩) main_v28) select ]

/-- What these write, in order. -/
abbrev div1_w : List (Ref sig .tc) :=
  [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v28]

theorem div1_writes : (div1 (F := F)).Forall fun op => op.writes ⊆ (div1_w.map (Proc.devRef (τ := τ) .tc)).toFinset :=
  forall_writes_sub_of_map rfl

theorem div1_fresh : (div1 (F := F)).Forall fun op => op.fresh = ∅ :=
  forall_fresh_of_map rfl

theorem div1_sub : (div1 (F := F)).Forall fun op => op.bufs ⊆ tcRefs τ sig :=
  ⟨unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

/-- The quotient times 1984. -/
abbrev opsC2 : List (HloOp τ sig (Elt F)) :=
  [ nullary main_c_6 (constantI S_ 32 1984#32),
    unary main_c_6 main_v29 (broadcastInDim S819200 ![] bcast_S_S819200 : (⟨S_, .i32⟩ : BufTy).Contents (Elt F) → (⟨S819200, .i32⟩ : BufTy).Contents (Elt F)),
    binary main_v28 main_v29 main_v30 (muli : (⟨S819200, .i32⟩ : BufTy).Contents (Elt F) → (⟨S819200, .i32⟩ : BufTy).Contents (Elt F) → (⟨S819200, .i32⟩ : BufTy).Contents (Elt F)),
    nullary main_c_7 (constantI S_ 32 1984#32) ]

/-- What these write, in order. -/
abbrev opsC2_w : List (Ref sig .tc) :=
  [main_c_6, main_v29, main_v30, main_c_7]

theorem opsC2_writes : (opsC2 (F := F)).Forall fun op => op.writes ⊆ (opsC2_w.map (Proc.devRef (τ := τ) .tc)).toFinset :=
  forall_writes_sub_of_map rfl

theorem opsC2_fresh : (opsC2 (F := F)).Forall fun op => op.fresh = ∅ :=
  forall_fresh_of_map rfl

theorem opsC2_sub : (opsC2 (F := F)).Forall fun op => op.bufs ⊆ tcRefs τ sig :=
  ⟨nullary_bufs_sub .., unary_bufs_sub .., binary_bufs_sub .., nullary_bufs_sub ..⟩

/-- The remainder modulo 1984. -/
abbrev rem2 : List (HloOp τ sig (Elt F)) :=
  [ TRef.unary (TRef.of (T := ⟨S_, .i32⟩) main_c_7) (TRef.of (T := ⟨S_, .i32⟩) main_call3_v0) id,
    TRef.nullary (TRef.of (T := ⟨S_, .i32⟩) main_call3_c) (constantI S_ 32 0#32),
    TRef.binary (TRef.of (T := ⟨S_, .i32⟩) main_call3_v0) (TRef.of (T := ⟨S_, .i32⟩) main_call3_c) (TRef.of (T := ⟨S_, .i1⟩) main_call3_v1) (cmpi .eq),
    TRef.nullary (TRef.of (T := ⟨S_, .i32⟩) main_call3_c_0) (constantI S_ 32 1#32),
    TRef.ternary (TRef.of (T := ⟨S_, .i1⟩) main_call3_v1) (TRef.of (T := ⟨S_, .i32⟩) main_call3_c_0) (TRef.of (T := ⟨S_, .i32⟩) main_call3_v0) (TRef.of (T := ⟨S_, .i32⟩) main_call3_v2) select,
    TRef.unary main_call3_call0.v0 (TRef.of (T := ⟨S819200, .i32⟩) main_call3_v3) (broadcastInDim S819200 ![] bcast_S_S819200),
    TRef.binary (TRef.of (T := ⟨S819200, .i32⟩) main_v25) (TRef.of (T := ⟨S819200, .i32⟩) main_call3_v3) (TRef.of (T := ⟨S819200, .i32⟩) main_call3_v4) Host.remsi,
    TRef.nullary (TRef.of (T := ⟨S_, .i32⟩) main_call3_c_1) (constantI S_ 32 0#32),
    TRef.unary (TRef.of (T := ⟨S_, .i32⟩) main_call3_c_1) (TRef.of (T := ⟨S819200, .i32⟩) main_call3_v5) (broadcastInDim S819200 ![] bcast_S_S819200),
    TRef.binary (TRef.of (T := ⟨S819200, .i32⟩) main_call3_v4) (TRef.of (T := ⟨S819200, .i32⟩) main_call3_v5) (TRef.of (T := ⟨S819200, .i1⟩) main_call3_v6) (cmpi .ne),
    TRef.nullary (TRef.of (T := ⟨S_, .i32⟩) main_call3_c_2) (constantI S_ 32 0#32),
    TRef.unary (TRef.of (T := ⟨S_, .i32⟩) main_call3_c_2) (TRef.of (T := ⟨S819200, .i32⟩) main_call3_v7) (broadcastInDim S819200 ![] bcast_S_S819200),
    TRef.binary (TRef.of (T := ⟨S819200, .i32⟩) main_call3_v4) (TRef.of (T := ⟨S819200, .i32⟩) main_call3_v7) (TRef.of (T := ⟨S819200, .i1⟩) main_call3_v8) (cmpi .slt),
    TRef.nullary (TRef.of (T := ⟨S_, .i32⟩) main_call3_c_3) (constantI S_ 32 0#32),
    TRef.binary main_call3_call0.v0 (TRef.of (T := ⟨S_, .i32⟩) main_call3_c_3) (TRef.of (T := ⟨S_, .i1⟩) main_call3_v9) (cmpi .slt),
    TRef.unary (TRef.of (T := ⟨S_, .i1⟩) main_call3_v9) (TRef.of (T := ⟨S819200, .i1⟩) main_call3_v10) (broadcastInDim S819200 ![] bcast_S_S819200),
    TRef.binary (TRef.of (T := ⟨S819200, .i1⟩) main_call3_v8) (TRef.of (T := ⟨S819200, .i1⟩) main_call3_v10) (TRef.of (T := ⟨S819200, .i1⟩) main_call3_v11) (cmpi .ne),
    TRef.binary (TRef.of (T := ⟨S819200, .i1⟩) main_call3_v11) (TRef.of (T := ⟨S819200, .i1⟩) main_call3_v6) (TRef.of (T := ⟨S819200, .i1⟩) main_call3_v12) andi,
    TRef.unary main_call3_call0.v0 (TRef.of (T := ⟨S819200, .i32⟩) main_call3_v13) (broadcastInDim S819200 ![] bcast_S_S819200),
    TRef.binary (TRef.of (T := ⟨S819200, .i32⟩) main_call3_v4) (TRef.of (T := ⟨S819200, .i32⟩) main_call3_v13) (TRef.of (T := ⟨S819200, .i32⟩) main_call3_v14) addi,
    TRef.ternary (TRef.of (T := ⟨S819200, .i1⟩) main_call3_v12) (TRef.of (T := ⟨S819200, .i32⟩) main_call3_v14) (TRef.of (T := ⟨S819200, .i32⟩) main_call3_v4) (TRef.of (T := ⟨S819200, .i32⟩) main_v31) select ]

/-- What these write, in order. -/
abbrev rem2_w : List (Ref sig .tc) :=
  [main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v31]

theorem rem2_writes : (rem2 (F := F)).Forall fun op => op.writes ⊆ (rem2_w.map (Proc.devRef (τ := τ) .tc)).toFinset :=
  forall_writes_sub_of_map rfl

theorem rem2_fresh : (rem2 (F := F)).Forall fun op => op.fresh = ∅ :=
  forall_fresh_of_map rfl

theorem rem2_sub : (rem2 (F := F)).Forall fun op => op.bufs ⊆ tcRefs τ sig :=
  ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

/-- The packed row before its lane. -/
abbrev opsC3 : List (HloOp τ sig (Elt F)) :=
  [ binary main_v30 main_v31 main_v32 (addi : (⟨S819200, .i32⟩ : BufTy).Contents (Elt F) → (⟨S819200, .i32⟩ : BufTy).Contents (Elt F) → (⟨S819200, .i32⟩ : BufTy).Contents (Elt F)),
    nullary main_c_8 (constantI S_ 32 8#32),
    unary main_c_8 main_v33 (broadcastInDim S819200 ![] bcast_S_S819200 : (⟨S_, .i32⟩ : BufTy).Contents (Elt F) → (⟨S819200, .i32⟩ : BufTy).Contents (Elt F)),
    binary main_v32 main_v33 main_v34 (muli : (⟨S819200, .i32⟩ : BufTy).Contents (Elt F) → (⟨S819200, .i32⟩ : BufTy).Contents (Elt F) → (⟨S819200, .i32⟩ : BufTy).Contents (Elt F)),
    nullary main_c_9 (constantI S_ 32 1984#32) ]

/-- What these write, in order. -/
abbrev opsC3_w : List (Ref sig .tc) :=
  [main_v32, main_c_8, main_v33, main_v34, main_c_9]

theorem opsC3_writes : (opsC3 (F := F)).Forall fun op => op.writes ⊆ (opsC3_w.map (Proc.devRef (τ := τ) .tc)).toFinset :=
  forall_writes_sub_of_map rfl

theorem opsC3_fresh : (opsC3 (F := F)).Forall fun op => op.fresh = ∅ :=
  forall_fresh_of_map rfl

theorem opsC3_sub : (opsC3 (F := F)).Forall fun op => op.bufs ⊆ tcRefs τ sig :=
  ⟨binary_bufs_sub .., nullary_bufs_sub .., unary_bufs_sub .., binary_bufs_sub .., nullary_bufs_sub ..⟩

/-- The remainder divided by 1984: the lane. -/
abbrev div2 : List (HloOp τ sig (Elt F)) :=
  [ TRef.unary (TRef.of (T := ⟨S_, .i32⟩) main_c_9) (TRef.of (T := ⟨S_, .i32⟩) main_call4_v0) id,
    TRef.unary (TRef.of (T := ⟨S_, .i32⟩) main_call4_v0) (TRef.of (T := ⟨S819200, .i32⟩) main_call4_v1) (broadcastInDim S819200 ![] bcast_S_S819200),
    TRef.binary (TRef.of (T := ⟨S819200, .i32⟩) main_v25) (TRef.of (T := ⟨S819200, .i32⟩) main_call4_v1) (TRef.of (T := ⟨S819200, .i32⟩) main_call4_v2) Host.divsi,
    TRef.unary (TRef.of (T := ⟨S819200, .i32⟩) main_v25) (TRef.of (T := ⟨S819200, .i32⟩) main_call4_v3) signi,
    TRef.unary (TRef.of (T := ⟨S_, .i32⟩) main_call4_v0) (TRef.of (T := ⟨S_, .i32⟩) main_call4_v4) signi,
    TRef.unary (TRef.of (T := ⟨S_, .i32⟩) main_call4_v4) (TRef.of (T := ⟨S819200, .i32⟩) main_call4_v5) (broadcastInDim S819200 ![] bcast_S_S819200),
    TRef.binary (TRef.of (T := ⟨S819200, .i32⟩) main_call4_v3) (TRef.of (T := ⟨S819200, .i32⟩) main_call4_v5) (TRef.of (T := ⟨S819200, .i1⟩) main_call4_v6) (cmpi .ne),
    TRef.unary (TRef.of (T := ⟨S_, .i32⟩) main_call4_v0) (TRef.of (T := ⟨S819200, .i32⟩) main_call4_v7) (broadcastInDim S819200 ![] bcast_S_S819200),
    TRef.binary (TRef.of (T := ⟨S819200, .i32⟩) main_v25) (TRef.of (T := ⟨S819200, .i32⟩) main_call4_v7) (TRef.of (T := ⟨S819200, .i32⟩) main_call4_v8) Host.remsi,
    TRef.nullary (TRef.of (T := ⟨S_, .i32⟩) main_call4_c) (constantI S_ 32 0#32),
    TRef.unary (TRef.of (T := ⟨S_, .i32⟩) main_call4_c) (TRef.of (T := ⟨S819200, .i32⟩) main_call4_v9) (broadcastInDim S819200 ![] bcast_S_S819200),
    TRef.binary (TRef.of (T := ⟨S819200, .i32⟩) main_call4_v8) (TRef.of (T := ⟨S819200, .i32⟩) main_call4_v9) (TRef.of (T := ⟨S819200, .i1⟩) main_call4_v10) (cmpi .ne),
    TRef.binary (TRef.of (T := ⟨S819200, .i1⟩) main_call4_v6) (TRef.of (T := ⟨S819200, .i1⟩) main_call4_v10) (TRef.of (T := ⟨S819200, .i1⟩) main_call4_v11) andi,
    TRef.nullary (TRef.of (T := ⟨S_, .i32⟩) main_call4_c_0) (constantI S_ 32 1#32),
    TRef.unary (TRef.of (T := ⟨S_, .i32⟩) main_call4_c_0) (TRef.of (T := ⟨S819200, .i32⟩) main_call4_v12) (broadcastInDim S819200 ![] bcast_S_S819200),
    TRef.binary (TRef.of (T := ⟨S819200, .i32⟩) main_call4_v2) (TRef.of (T := ⟨S819200, .i32⟩) main_call4_v12) (TRef.of (T := ⟨S819200, .i32⟩) main_call4_v13) subi,
    TRef.ternary (TRef.of (T := ⟨S819200, .i1⟩) main_call4_v11) (TRef.of (T := ⟨S819200, .i32⟩) main_call4_v13) (TRef.of (T := ⟨S819200, .i32⟩) main_call4_v2) (TRef.of (T := ⟨S819200, .i32⟩) main_v35) select ]

/-- What these write, in order. -/
abbrev div2_w : List (Ref sig .tc) :=
  [main_call4_v0, main_call4_v1, main_call4_v2, main_call4_v3, main_call4_v4, main_call4_v5, main_call4_v6, main_call4_v7, main_call4_v8, main_call4_c, main_call4_v9, main_call4_v10, main_call4_v11, main_call4_c_0, main_call4_v12, main_call4_v13, main_v35]

theorem div2_writes : (div2 (F := F)).Forall fun op => op.writes ⊆ (div2_w.map (Proc.devRef (τ := τ) .tc)).toFinset :=
  forall_writes_sub_of_map rfl

theorem div2_fresh : (div2 (F := F)).Forall fun op => op.fresh = ∅ :=
  forall_fresh_of_map rfl

theorem div2_sub : (div2 (F := F)).Forall fun op => op.bufs ⊆ tcRefs τ sig :=
  ⟨unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

/-- The packed row of every token, and the table of packed rows in narrow rows. -/
abbrev opsC4 : List (HloOp τ sig (Elt F)) :=
  [ binary main_v34 main_v35 main_v36 (addi : (⟨S819200, .i32⟩ : BufTy).Contents (Elt F) → (⟨S819200, .i32⟩ : BufTy).Contents (Elt F) → (⟨S819200, .i32⟩ : BufTy).Contents (Elt F)),
    TRef.ternary (TRef.of (T := ⟨S819200, .i1⟩) main_v27) (TRef.of (T := ⟨S819200, .i32⟩) main_v36) (TRef.of (T := ⟨S819200, .i32⟩) main_v24) (TRef.of (T := ⟨S819200, .i32⟩) main_v37) select,
    reshape main_v23 main_v38 (rfl : (.f32 : EltTy) = .f32) shapeCasts_S125000x128_S1000000x16 ]

/-- What these write, in order. -/
abbrev opsC4_w : List (Ref sig .tc) :=
  [main_v36, main_v37, main_v38]

theorem opsC4_writes : (opsC4 (F := F)).Forall fun op => op.writes ⊆ (opsC4_w.map (Proc.devRef (τ := τ) .tc)).toFinset :=
  forall_writes_sub_of_map rfl

theorem opsC4_fresh : (opsC4 (F := F)).Forall fun op => op.fresh = ∅ :=
  forall_fresh_of_map rfl

theorem opsC4_sub : (opsC4 (F := F)).Forall fun op => op.bufs ⊆ tcRefs τ sig :=
  ⟨binary_bufs_sub .., ternary_bufs_sub .., reshape_bufs_sub ..⟩

/-- The host work after the gather: the first six columns, reshaped. -/
abbrev opsD : List (HloOp τ sig (Elt F)) :=
  [ unary main_v39 main_v40 ((extractStridedSlice S819200x6 ![0, 0] · slices_S819200x16_S819200x6_0_0) : (⟨S819200x16, .f32⟩ : BufTy).Contents (Elt F) → (⟨S819200x6, .f32⟩ : BufTy).Contents (Elt F)),
    reshape main_v40 main_v41 (rfl : (.f32 : EltTy) = .f32) shapeCasts_S819200x6_S4096x200x6 ]

/-- What these write, in order. -/
abbrev opsD_w : List (Ref sig .tc) :=
  [main_v40, main_v41]

theorem opsD_writes : (opsD (F := F)).Forall fun op => op.writes ⊆ (opsD_w.map (Proc.devRef (τ := τ) .tc)).toFinset :=
  forall_writes_sub_of_map rfl

theorem opsD_fresh : (opsD (F := F)).Forall fun op => op.fresh = ∅ :=
  forall_fresh_of_map rfl

theorem opsD_sub : (opsD (F := F)).Forall fun op => op.bufs ⊆ tcRefs τ sig :=
  ⟨unary_bufs_sub .., reshape_bufs_sub ..⟩

/-- The host work between the second pipeline and the gather. -/
abbrev opsC : List (HloOp τ sig (Elt F)) :=
  opsC0 ++ (rem1 ++ (opsC1 ++ (div1 ++ (opsC2 ++ (rem2 ++ (opsC3 ++ (div2 ++ opsC4)))))))

set_option maxRecDepth 16384 in
/-- The program is its host work around the two pipelines and the gather. -/
theorem main_eq (d : Dev nD) : main (F := F) d = (seq opsA >>= fun _ =>
    Prog.lift (.customCall (SparseCore.inner (Pipeline.entry 0)) ()) >>= fun _ => seq opsB >>= fun _ =>
    Prog.lift (.customCall (SparseCore.inner (Pipeline.entry 1)) ()) >>= fun _ => seq opsC >>= fun _ =>
    sc.run d 0 >>= fun _ => seq opsD) := rfl

end Cert.Mlp

end
-- ==== Proof.TileProg.lean ====
/-
  The tile kernel's arrays, the pieces of them it names, and its body as eight chunks in order: a chunk brings in a
  piece of the list of row numbers, gathers those rows of the table, and writes them to its piece of the result.
-/
module

public import proofs.«01_k».proof.Proof.Common
public import Idealize.ShloMosaic.Lib.ValueIdx

@[expose] public section

noncomputable section

namespace Cert.Mlp

open Cert.KernelIdeal Cert.KernelIdeal.Gen

open Idealize.ShloMosaic
open Idealize.ShloMosaic.ValueIdx (ix1 ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The kernel's arrays and their pieces -/

/-- The table of rows, the list of row numbers, the result, and a tile's two scratch buffers, as a tile names them. -/
abbrev tblM : Memref sig .scVector .hbm S1000000x16 .f32 := Memref.whole main_v38_scv
abbrev lstM : Memref sig .scVector .hbm S819200 .i32 := Memref.whole main_v37_scv
abbrev outM : Memref sig .scVector .hbm S819200x16 .f32 := Memref.whole main_v39_scv
abbrev idxM : Memref sig .scVector .vmem S3200 .i32 := Memref.whole cc2_scratch0
abbrev rowM : Memref sig .scVector .vmem S3200x16 .f32 := Memref.whole cc2_scratch1

/-- All of the table, and the pieces of the list and of the result at offset `c` of the tile's share, as the kernel slices them. -/
abbrev tblAll : Memref sig .scVector .hbm S1000000x16 .f32 :=
  tblM.slice (Rect.unit (s := S1000000x16) ![0, 0] S1000000x16.size inb_S1000000x16_S1000000x16_0_0) (fun _ => rfl)
abbrev lstChunk (L : grid2.Coords) (c : BitVec 32) (h : ∀ a, k2_off1 L c a + S3200.size a ≤ S819200.size a) : Memref sig .scVector .hbm S3200 .i32 :=
  lstM.slice (Rect.unit (s := S819200) (k2_off1 L c) S3200.size h) (fun _ => rfl)
abbrev outChunk (L : grid2.Coords) (c : BitVec 32) (h : ∀ a, k2_off2 L c a + S3200x16.size a ≤ S819200x16.size a) : Memref sig .scVector .hbm S3200x16 .f32 :=
  outM.slice (Rect.unit (s := S819200x16) (k2_off2 L c) S3200x16.size h) (fun _ => rfl)

/-- The SparseCore and the tile a grid point names. -/
abbrev cV (L : grid2.Coords) : Fin τ.nSC := (L 0).castLE hcore2
abbrev jV (L : grid2.Coords) : Fin τ.nSub := (L 1).castLE hsub2

/-- One chunk of the kernel's body: the piece of the list in, the rows it names gathered, the rows out. -/
def chunk (L : grid2.Coords) (c : BitVec 32) (h₁ : ∀ a, k2_off1 L c a + S3200.size a ≤ S819200.size a)
    (h₂ : ∀ a, k2_off2 L c a + S3200x16.size a ≤ S819200x16.size a) (sA sB : DmaSems sig S_) :
    Prog (TpuEff nD τ sig (Elt F) Λ₀ (.scVector (cV L) (jV L))) PUnit := do
  Prog.lift (.enqueueDma (lstChunk L c h₁) (.here idxM) (.dma sA.sem) (View.wordExact_bits rfl) (Memref.isWhole_whole cc2_scratch0).wordExact ⟨Or.inl rfl, trivial⟩)
  Prog.lift (.waitDma2 sA.sem (lstChunk L c h₁) idxM (View.wordExact_bits rfl) (Memref.isWhole_whole cc2_scratch0).wordExact)
  SparseCore.enqueueIndirectGather rfl tblAll rowM gathers_S1000000x16_S3200x16 idxM rfl cc2_scratch2.sem (View.wordExact_bits rfl) rfl (Or.inl rfl)
  SparseCore.waitIndirectGather cc2_scratch2.sem tblAll rowM (View.wordExact_bits rfl) (Memref.isWhole_whole cc2_scratch1).wordExact
  Prog.lift (.enqueueDma rowM (.here (outChunk L c h₂)) (.dma sB.sem) (Memref.isWhole_whole cc2_scratch1).wordExact (View.wordExact_bits rfl) ⟨Or.inl rfl, trivial⟩)
  Prog.lift (.waitDma2 sB.sem rowM (outChunk L c h₂) (Memref.isWhole_whole cc2_scratch1).wordExact (View.wordExact_bits rfl))

/-- The kernel's body on the program's arrays. -/
abbrev tileProg (L : grid2.Coords) : Prog (TpuEff nD τ sig (Elt F) Λ₀ (.scVector (cV L) (jV L))) PUnit :=
  cc2__gather_body L tblM (Memref.isWhole_whole _) lstM (Memref.isWhole_whole _) outM (Memref.isWhole_whole _)
    idxM (Memref.isWhole_whole _) rowM (Memref.isWhole_whole _) cc2_scratch2 cc2_scoped0 cc2_scoped1 cc2_scoped2 cc2_scoped3 cc2_scoped4
    cc2_scoped5 cc2_scoped6 cc2_scoped7 cc2_scoped8 cc2_scoped9 cc2_scoped10 cc2_scoped11 cc2_scoped12 cc2_scoped13 cc2_scoped14 cc2_scoped15

set_option maxRecDepth 8192 in
/-- The body is its eight chunks in order. -/
theorem tileProg_eq (L : grid2.Coords) : tileProg (F := F) L = (do
    chunk L 0#32 (k2_off1_inb L 0) (k2_off2_inb L 0) cc2_scoped0 cc2_scoped1
    chunk L 3200#32 (k2_off1_inb L 1) (k2_off2_inb L 1) cc2_scoped2 cc2_scoped3
    chunk L 6400#32 (k2_off1_inb L 2) (k2_off2_inb L 2) cc2_scoped4 cc2_scoped5
    chunk L 9600#32 (k2_off1_inb L 3) (k2_off2_inb L 3) cc2_scoped6 cc2_scoped7
    chunk L 12800#32 (k2_off1_inb L 4) (k2_off2_inb L 4) cc2_scoped8 cc2_scoped9
    chunk L 16000#32 (k2_off1_inb L 5) (k2_off2_inb L 5) cc2_scoped10 cc2_scoped11
    chunk L 19200#32 (k2_off1_inb L 6) (k2_off2_inb L 6) cc2_scoped12 cc2_scoped13
    chunk L 22400#32 (k2_off1_inb L 7) (k2_off2_inb L 7) cc2_scoped14 cc2_scoped15) := by
  rfl

end Cert.Mlp

end
-- ==== Proof.Tile.lean ====
/-
  The tile kernel's run: each of the thirty-two tiles does its eight chunks; one chunk's run, at a symbolic tile and
  chunk, serves all. What a tile leaves: row `n` of its piece of the result is the table's row that entry `n` of the
  list names.
-/
module

public import proofs.«01_k».proof.Proof.TileProg
public import Idealize.ShloMosaic.Lib.ValueIdx

@[expose] public section

noncomputable section

namespace Cert.Mlp

open Cert.KernelIdeal Cert.KernelIdeal.Gen

open Idealize.ShloMosaic
open Idealize.ShloMosaic.ValueIdx (ix1 ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What the kernel computes -/

/-- Row `n` of the result: the row of `t` that entry `n` of `ix` names. -/
def gathered (t : FVec F S1000000x16 .f32) (ix : IVec S819200 32) (h : ∀ n, (ix n).toNat < 1000000) : FVec F S819200x16 .f32 :=
  fun x => t (ix2 ⟨(ix (ix1 (x 0))).toNat, h _⟩ (x 1))

/-- The three arrays as locations of device `d`. -/
abbrev tblLoc (d : Dev nD) : Loc nD τ sig := tcLoc d main_v38
abbrev lstLoc (d : Dev nD) : Loc nD τ sig := tcLoc d main_v37
abbrev outLoc (d : Dev nD) : Loc nD τ sig := tcLoc d main_v39

section Chunk

variable (d : Dev nD) (L : grid2.Coords)

/-- A chunk's offset into its tile's share. -/
abbrev off (r : Fin 8) : BitVec 32 := BitVec.ofNat 32 (3200 * r.val)

/-- The elements of the result chunk `r` writes. -/
abbrev outSet (r : Fin 8) : Finset S819200x16.Idx := (outChunk L (off r) (k2_off2_inb L r)).view.set

/-- The row numbers a chunk brings in are in range, whatever its scratch held before. -/
theorem hin_of (ix : IVec S819200 32) (h : ∀ n, (ix n).toNat < 1000000) (r : Fin 8) (fs : Buf (Elt F) ((V d (cV L) (jV L)).loc cc2_scratch0)) :
    ∀ x, ((idxM).view.read (Elt F) (View.write (Elt F) (idxM).view fs ((lstChunk L (off r) (k2_off1_inb L r)).view.read (Elt F) (ix : Buf (Elt F) (lstLoc d))) Finset.univ) x).toNat
      < S1000000x16.size gathers_S1000000x16_S3200x16.axis := by
  intro x
  rw [View.write_whole_univ]
  simp only [Memref.view_whole, View.read_whole]
  exact h _

/-- The element of the result that entry `y` of a chunk's rows lands at. -/
theorem outChunk_emb (r : Fin 8) (y : S3200x16.Idx) :
    ((outChunk L (off r) (k2_off2_inb L r)).view.emb y : S819200x16.Idx)
      = ix2 ⟨51200 * (L 1).val + 25600 * (L 0).val + 3200 * r.val + (y 0).val, by
          have h0 : (L 0).val < 2 := (L 0).isLt
          have h1 : (L 1).val < 16 := (L 1).isLt
          have h2 : (y 0).val < 3200 := (y 0).isLt
          have h3 := r.isLt
          omega⟩ (y 1) := by
  funext a
  refine Fin.ext ?_
  show k2_off2 L (off r) a + 1 * (y a).val = _
  rw [k2_off2_eq]
  match a with
  | ⟨0, _⟩ => simp
  | ⟨1, _⟩ => simp

/-- The entry of the list that entry `y` of a chunk is. -/
theorem lstChunk_emb (r : Fin 8) (y : S3200.Idx) :
    ((lstChunk L (off r) (k2_off1_inb L r)).view.emb y : S819200.Idx)
      = ix1 ⟨51200 * (L 1).val + 25600 * (L 0).val + 3200 * r.val + (y 0).val, by
          have h0 : (L 0).val < 2 := (L 0).isLt
          have h1 : (L 1).val < 16 := (L 1).isLt
          have h2 : (y 0).val < 3200 := (y 0).isLt
          have h3 := r.isLt
          omega⟩ := by
  funext a
  refine Fin.ext ?_
  show k2_off1 L (off r) a + 1 * (y a).val = _
  rw [k2_off1_eq]
  match a with
  | ⟨0, _⟩ => simp

/-- All of the table, element by element. -/
theorem tblAll_emb (y : S1000000x16.Idx) : ((tblAll).view.emb y : S1000000x16.Idx) = y := by
  funext a
  refine Fin.ext ?_
  show (![0, 0] : Fin 2 → ℕ) a + 1 * (y a).val = _
  match a with
  | ⟨0, _⟩ => simp
  | ⟨1, _⟩ => simp

/-- The rows gathered by the list a chunk brought in are the result's rows. -/
theorem gather_value (ix : IVec S819200 32) (h : ∀ n, (ix n).toNat < 1000000) (r : Fin 8) (t : Buf (Elt F) (tblLoc d))
    (lst : S3200.Idx → Elt F .i32) (hlst : lst = (lstChunk L (off r) (k2_off1_inb L r)).view.read (Elt F) (ix : Buf (Elt F) (lstLoc d)))
    (hin : ∀ x, (lst x).toNat < S1000000x16.size gathers_S1000000x16_S3200x16.axis) (hn : S3200.numel = S3200x16.size gathers_S1000000x16_S3200x16.axis') (y : S3200x16.Idx) :
    SparseCore.gatherPayload gathers_S1000000x16_S3200x16 ((tblAll).view.read (Elt F) t) (SparseCore.rows lst hn hin) y
      = gathered t ix h ((outChunk L (off r) (k2_off2_inb L r)).view.emb y) := by
  subst hlst
  unfold SparseCore.gatherPayload gathered
  show t ((tblAll).view.emb _) = t _
  rw [tblAll_emb, outChunk_emb]
  congr 1
  funext a
  refine Fin.ext ?_
  match a with
  | ⟨0, _⟩ =>
    refine (congrArg Fin.val (Shape.Gathers.idx_axis gathers_S1000000x16_S3200x16 _ y)).trans ?_
    show (ix ((lstChunk L (off r) (k2_off1_inb L r)).view.emb _)).toNat = (ix (ix1 _)).toNat
    rw [lstChunk_emb]
    congr 3
    refine Fin.ext ?_
    show _ + (S3200.rowMajor.symm _ 0).val = _ + (y 0).val
    congr 1
    refine (Shape.rowMajor_val_one (S3200.rowMajor.symm _)).symm.trans ?_
    rw [Equiv.apply_symm_apply]; rfl
  | ⟨1, _⟩ => exact Shape.Gathers.idx_of_ne gathers_S1000000x16_S3200x16 _ y 1 (by decide)

omit [FloatOps F] in
/-- A view written whole reads what was written. -/
theorem read_written {κ : Kind} {sp : Space} {s : Shape} {e : EltTy} (v : View sig κ sp s e) (f : v.ty.Contents (Elt F)) (w : s.Idx → Elt F e) (y : s.Idx) :
    v.read (Elt F) (v.writes (Elt F) f [⟨Rect.whole s, w⟩]) y = w y :=
  (congrArg (v.read (Elt F) (v.writes (Elt F) f [⟨Rect.whole s, w⟩])) (Rect.emb_whole_apply s y).symm).trans
    (View.read_writes_cons_emb v f (Rect.whole s) w [] y)

set_option maxHeartbeats 800000 in
/-- One chunk's run: the list and the table read at shares, the result's piece written, the scratch left at whatever
    it holds, every counter back at zero. -/
theorem chunk_run (O : CellTallies nD τ sig (HIx 1)) (W : Waits sig (HIx 1)) (r : Fin 8) (sA sB : DmaSems sig S_)
    (qt ql : PosShare TreeShare) (t : Buf (Elt F) (tblLoc d)) (ix : IVec S819200 32) (h : ∀ n, (ix n).toNat < 1000000) (g : Buf (Elt F) (outLoc d)) :
    iprop(Transfers.MayWaits (V d (cV L) (jV L)) (default : HIx 1) O
        ∗ ((tblM).view.loc (V d (cV L) (jV L)) ↦{qt} t) ∗ ((lstM).view.loc (V d (cV L) (jV L)) ↦{ql} (ix : Buf (Elt F) (lstLoc d)))
        ∗ ((outChunk L (off r) (k2_off2_inb L r)).view.loc (V d (cV L) (jV L)) ↦[(outChunk L (off r) (k2_off2_inb L r)).view.set]{fullShare} g)
        ∗ (∃ f, (idxM).view.loc (V d (cV L) (jV L)) ↦{fullShare} f) ∗ (∃ f, (rowM).view.loc (V d (cV L) (jV L)) ↦{fullShare} f)
        ∗ semVal (V d (cV L) (jV L), SemLoc.dma cc2_scratch2.sem) 0 ∗ semVal (V d (cV L) (jV L), SemLoc.dma sA.sem) 0
        ∗ semVal (V d (cV L) (jV L), SemLoc.dma sB.sem) 0 ∗ owes (V d (cV L) (jV L)) O W)
      ⊢ wp frame (wpE (defs₀ (F := F)) 𝒱₀ (V d (cV L) (jV L)) none) Set.univ (chunk (F := F) L (off r) (k2_off1_inb L r) (k2_off2_inb L r) sA sB)
          fun _ => (iprop(((tblM).view.loc (V d (cV L) (jV L)) ↦{qt} t) ∗ ((lstM).view.loc (V d (cV L) (jV L)) ↦{ql} (ix : Buf (Elt F) (lstLoc d)))
            ∗ ((outChunk L (off r) (k2_off2_inb L r)).view.loc (V d (cV L) (jV L)) ↦[(outChunk L (off r) (k2_off2_inb L r)).view.set]{fullShare} (gathered t ix h : Buf (Elt F) (outLoc d)))
            ∗ (∃ f, (idxM).view.loc (V d (cV L) (jV L)) ↦{fullShare} f) ∗ (∃ f, (rowM).view.loc (V d (cV L) (jV L)) ↦{fullShare} f)
            ∗ semVal (V d (cV L) (jV L), SemLoc.dma cc2_scratch2.sem) 0 ∗ semVal (V d (cV L) (jV L), SemLoc.dma sA.sem) 0
            ∗ semVal (V d (cV L) (jV L), SemLoc.dma sB.sem) 0 ∗ ∃ W', ⌜∀ p ∈ W', p ∈ W ∨ p.2 = none⌝ ∗ owes (V d (cV L) (jV L)) O W') : sProp 𝕄) := by
  unfold chunk
  iintro ⟨#Hmw, Ht, Hl, Ho, ⟨%fs, Hs⟩, ⟨%fr, Hr⟩, HsemG, HsemA, HsemB, HO⟩
  have hin := hin_of d L ix h r fs
  sl_exec
  sl_step
  isplitl [Ht]; · iexact Ht
  isplitl [Hl]; · iexact Hl
  isplitl [Ho]
  · iapply (Entails.of_eq (pointsTo_congr fun i hi => ?_)) $$ Ho
    obtain ⟨y, -, rfl⟩ := Finset.mem_map.mp hi
    unfold chunk_run.sl.dma0_1 chunk_run.sl.gather1
    refine ((View.read_apply _ _).trans (cast_eq _ _)).symm.trans ((read_written _ _ _ y).trans ?_)
    refine (read_written _ _ _ y).trans ?_
    have e : View.read (Elt F) (idxM).view (View.write (Elt F) (idxM).view fs (chunk_run.sl.dma0 L r ix) Finset.univ)
        = (lstChunk L (off r) (k2_off1_inb L r)).view.read (Elt F) (ix : Buf (Elt F) (lstLoc d)) := by
      rw [View.write_whole_univ]; unfold chunk_run.sl.dma0; rfl
    exact gather_value d L ix h r t _ e hin _ y
  isplitl [Hs]; · iexists _; iexact Hs
  isplitl [Hr]; · iexists _; iexact Hr
  isplitl [HsemG]; · iexact HsemG
  isplitl [HsemA]; · iexact HsemA
  isplitl [HsemB]; · iexact HsemB
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Chunk

end Cert.Mlp

end
-- ==== Proof.TileBody.lean ====
/-
  A tile's whole run: its eight chunks one after another, from the tile's shares of the table and of the list and its
  piece of the result, its scratch buffers and its semaphores; and the obligation the launch theorem asks of the tile
  kernel, from it.
-/
module

public import proofs.«01_k».proof.Proof.Tile
public import Idealize.ShloMosaic.Lib.ValueIdx

@[expose] public section

noncomputable section

namespace Cert.Mlp

open Cert.KernelIdeal Cert.KernelIdeal.Gen

open Idealize.ShloMosaic
open Idealize.ShloMosaic.ValueIdx (ix1 ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (d : Dev nD) (L : grid2.Coords)

/-! ## The tile's own semaphores and buffers -/

/-- The kernel's seventeen DMA semaphores on a tile: the gather's and the sixteen copies'. -/
def semE : Fin 17 ↪ GSem nD τ sig :=
  ⟨fun i => (V d (cV L) (jV L), .dma ⟨9 + i.val, by have := i.isLt; show 9 + i.val < 26; omega⟩), fun i j h => by
    have h2 := congrArg (fun x : GSem nD τ sig => match x.2 with | .dma s => s.val | .reg _ => 0) h
    simp only at h2
    exact Fin.ext (by omega)⟩

omit [FloatOps F] in
/-- A tile's semaphores are those and the rest. -/
theorem ownSems0_V :
    (ownSems0 (V d (cV L) (jV L)) : sProp 𝕄)
      = iprop((semVal (V d (cV L) (jV L), SemLoc.dma cc2_scratch2.sem) 0 ∗ semVal (V d (cV L) (jV L), SemLoc.dma cc2_scoped0.sem) 0 ∗ semVal (V d (cV L) (jV L), SemLoc.dma cc2_scoped1.sem) 0 ∗ semVal (V d (cV L) (jV L), SemLoc.dma cc2_scoped2.sem) 0 ∗ semVal (V d (cV L) (jV L), SemLoc.dma cc2_scoped3.sem) 0 ∗ semVal (V d (cV L) (jV L), SemLoc.dma cc2_scoped4.sem) 0 ∗ semVal (V d (cV L) (jV L), SemLoc.dma cc2_scoped5.sem) 0 ∗ semVal (V d (cV L) (jV L), SemLoc.dma cc2_scoped6.sem) 0 ∗ semVal (V d (cV L) (jV L), SemLoc.dma cc2_scoped7.sem) 0 ∗ semVal (V d (cV L) (jV L), SemLoc.dma cc2_scoped8.sem) 0 ∗ semVal (V d (cV L) (jV L), SemLoc.dma cc2_scoped9.sem) 0 ∗ semVal (V d (cV L) (jV L), SemLoc.dma cc2_scoped10.sem) 0 ∗ semVal (V d (cV L) (jV L), SemLoc.dma cc2_scoped11.sem) 0 ∗ semVal (V d (cV L) (jV L), SemLoc.dma cc2_scoped12.sem) 0 ∗ semVal (V d (cV L) (jV L), SemLoc.dma cc2_scoped13.sem) 0 ∗ semVal (V d (cV L) (jV L), SemLoc.dma cc2_scoped14.sem) 0 ∗ semVal (V d (cV L) (jV L), SemLoc.dma cc2_scoped15.sem) 0)
          ∗ bigSep (ownCells (V d (cV L) (jV L)) \ Finset.univ.map (semE d L)) fun g => semVal g 0) := by
  unfold SparseCore.Cfg.ownSems0
  rw [SparseCore.bigSep_sdiff_split' (s := ownCells (V d (cV L) (jV L))) (t := Finset.univ.map (semE d L)) (fun g hg => by
      obtain ⟨i, -, rfl⟩ := Finset.mem_map.mp hg
      refine mem_ownCells.mpr ⟨rfl, ?_⟩
      show (SemLoc.dma ⟨9 + i.val, _⟩ : SemLoc sig).isScoped .scVector = true
      clear hg; revert i; decide), bigSep_map,
    bigSep_univ_eq_bigSepL [0, 1, 2, 3, 4, 5, 6, 7, 8, 9, 10, 11, 12, 13, 14, 15, 16] (by decide) (by decide)]
  rfl

omit [FloatOps F] in
/-- A tile's buffers are the two scratch buffers, at some contents, and the rest. -/
theorem ownBufs_V :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f)
          ∗ bigSep (((ownRefs (τ := τ) (.scVector (cV L) (jV L))).erase ((Proc.scVector (cV L) (jV L)).devRef cc2_scratch0)).erase
              ((Proc.scVector (cV L) (jV L)).devRef cc2_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩)]

/-! ## The eight chunks -/

/-- What every chunk holds throughout: the tile's shares of the table and of the list, the scratch buffers at whatever
    they hold, the gather's counter at zero, and what the tile owes. -/
def held (O : CellTallies nD τ sig (HIx 1)) (W : Waits sig (HIx 1)) (qt ql : PosShare TreeShare) (t : Buf (Elt F) (tblLoc d)) (ix : IVec S819200 32) : sProp 𝕄 :=
  iprop(((tblM).view.loc (V d (cV L) (jV L)) ↦{qt} t) ∗ ((lstM).view.loc (V d (cV L) (jV L)) ↦{ql} (ix : Buf (Elt F) (lstLoc d)))
    ∗ (∃ f, (idxM).view.loc (V d (cV L) (jV L)) ↦{fullShare} f) ∗ (∃ f, (rowM).view.loc (V d (cV L) (jV L)) ↦{fullShare} f)
    ∗ semVal (V d (cV L) (jV L), SemLoc.dma cc2_scratch2.sem) 0
    ∗ ∃ W', ⌜∀ p ∈ W', p ∈ W ∨ p.2 = none⌝ ∗ owes (V d (cV L) (jV L)) O W')

/-- Chunk `r`'s piece of the result, at the contents `g`. -/
def outPts (r : Fin 8) (g : Buf (Elt F) (outLoc d)) : sProp 𝕄 :=
  (outChunk L (off r) (k2_off2_inb L r)).view.loc (V d (cV L) (jV L)) ↦[(outChunk L (off r) (k2_off2_inb L r)).view.set]{fullShare} g

/-- One chunk, from `held` to `held`. -/
theorem chunk_step (O : CellTallies nD τ sig (HIx 1)) (W : Waits sig (HIx 1)) (r : Fin 8) (sA sB : DmaSems sig S_)
    (qt ql : PosShare TreeShare) (t : Buf (Elt F) (tblLoc d)) (ix : IVec S819200 32) (h : ∀ n, (ix n).toNat < 1000000) (g : Buf (Elt F) (outLoc d)) :
    iprop(Transfers.MayWaits (V d (cV L) (jV L)) (default : HIx 1) O ∗ held d L O W qt ql t ix ∗ outPts d L r g
        ∗ semVal (V d (cV L) (jV L), SemLoc.dma sA.sem) 0 ∗ semVal (V d (cV L) (jV L), SemLoc.dma sB.sem) 0)
      ⊢ wp frame (wpE (defs₀ (F := F)) 𝒱₀ (V d (cV L) (jV L)) none) Set.univ (chunk (F := F) L (off r) (k2_off1_inb L r) (k2_off2_inb L r) sA sB)
          fun _ => (iprop(held d L O W qt ql t ix ∗ outPts d L r (gathered t ix h : Buf (Elt F) (outLoc d))
            ∗ semVal (V d (cV L) (jV L), SemLoc.dma sA.sem) 0 ∗ semVal (V d (cV L) (jV L), SemLoc.dma sB.sem) 0) : sProp 𝕄) := by
  unfold held outPts
  iintro ⟨#Hmw, ⟨Ht, Hl, Hs, Hr, HG, %W1, %hW1, HO⟩, Ho, HA, HB⟩
  iapply (wp_wand_r frame _ _)
  isplitl [Ht Hl Hs Hr HG HO Ho HA HB]
  · iapply (chunk_run d L O W1 r sA sB qt ql t ix h g)
    isplitr; · iexact Hmw
    isplitl [Ht]; · iexact Ht
    isplitl [Hl]; · iexact Hl
    isplitl [Ho]; · iexact Ho
    isplitl [Hs]; · iexact Hs
    isplitl [Hr]; · iexact Hr
    isplitl [HG]; · iexact HG
    isplitl [HA]; · iexact HA
    isplitl [HB]; · iexact HB
    iexact HO
  iintro %_ ⟨Ht, Hl, Ho, Hs, Hr, HG, HA, HB, %W2, %hW2, HO⟩
  isplitr [Ho HA HB]
  · isplitl [Ht]; · iexact Ht
    isplitl [Hl]; · iexact Hl
    isplitl [Hs]; · iexact Hs
    isplitl [Hr]; · iexact Hr
    isplitl [HG]; · iexact HG
    iexists W2; isplitr
    · ipureintro; intro p hp
      exact (hW2 p hp).elim (hW1 p) .inr
    iexact HO
  isplitl [Ho]; · iexact Ho
  isplitl [HA] <;> iassumption

/-- What a tile is handed: a share of the table, a share of the list, its piece of the result; and what it hands back. -/
def tileIn (qt ql : PosShare TreeShare) (t : Buf (Elt F) (tblLoc d)) (ix : IVec S819200 32) (g : Buf (Elt F) (outLoc d)) : sProp 𝕄 :=
  iprop((tblLoc d ↦{qt} t) ∗ (lstLoc d ↦{ql} (ix : Buf (Elt F) (lstLoc d))) ∗ bigSep Finset.univ fun r : Fin 8 => outLoc d ↦[outSet L r]{fullShare} g)

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The task of the tile at `L`. -/
theorem tile_body (hF : (K (F := F)).Facts) (qt ql : PosShare TreeShare) (t : Buf (Elt F) (tblLoc d)) (ix : IVec S819200 32)
    (h : ∀ n, (ix n).toNat < 1000000) (g : Buf (Elt F) (outLoc d))
    (O : CellTallies nD τ sig (HIx 1)) (W : Waits sig (HIx 1)) (hO : ∀ g, O g none = 0) :
    iprop(levAts (K (F := F)).L (K (F := F)).lev ∗ emp ∗ tileIn d L qt ql t ix g
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (tileProg (F := F) L)
          fun _ => (iprop(tileIn d L qt ql t ix (gathered t ix h : Buf (Elt F) (outLoc d))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  rw [tileProg_eq, (K (F := F)).scopedBufs_V hF d (cV L) (jV L), SparseCore.Cfg.scopedSems0_V (Val := Elt F) d (cV L) (jV L), ownSems0_V, ownBufs_V]
  simp only [wp_bind]
  unfold tileIn
  rw [bigSep_fin8, bigSep_fin8]
  iintro ⟨#Hlv, -, ⟨Ht, Hl, Ho0, Ho1, Ho2, Ho3, Ho4, Ho5, Ho6, Ho7⟩, ⟨Hs, Hr, Hbufs⟩,
    ⟨⟨HG, HA0, HB0, HA1, HB1, HA2, HB2, HA3, HB3, HA4, HB4, HA5, HB5, HA6, HB6, HA7, HB7⟩, Hsems⟩, HO⟩
  ihave #Hmw := (show levAts (K (F := F)).L (K (F := F)).lev ⊢ Transfers.MayWaits (V d (cV L) (jV L)) (default : HIx 1) O from
    (K (F := F)).mayWaits_none (thr := V d (cV L) (jV L)) hO) $$ Hlv
  ihave Hh : held d L O W qt ql t ix $$ [Ht Hl Hs Hr HG HO]
  · unfold held
    isplitl [Ht]; · iexact Ht
    isplitl [Hl]; · iexact Hl
    isplitl [Hs]; · iexact Hs
    isplitl [Hr]; · iexact Hr
    isplitl [HG]; · iexact HG
    iexists W; isplitr; · ipureintro; exact fun p hp => .inl hp
    iexact HO
  iapply (wp_wand_r frame _ _)
  isplitl [Hh Ho0 HA0 HB0]
  · iapply (chunk_step d L O W 0 cc2_scoped0 cc2_scoped1 qt ql t ix h g)
    isplitr; · iexact Hmw
    isplitl [Hh]; · iexact Hh
    isplitl [Ho0]; · unfold outPts; iexact Ho0
    isplitl [HA0] <;> iassumption
  iintro %_ ⟨Hh, Ho0, HA0, HB0⟩
  iapply (wp_wand_r frame _ _)
  isplitl [Hh Ho1 HA1 HB1]
  · iapply (chunk_step d L O W 1 cc2_scoped2 cc2_scoped3 qt ql t ix h g)
    isplitr; · iexact Hmw
    isplitl [Hh]; · iexact Hh
    isplitl [Ho1]; · unfold outPts; iexact Ho1
    isplitl [HA1] <;> iassumption
  iintro %_ ⟨Hh, Ho1, HA1, HB1⟩
  iapply (wp_wand_r frame _ _)
  isplitl [Hh Ho2 HA2 HB2]
  · iapply (chunk_step d L O W 2 cc2_scoped4 cc2_scoped5 qt ql t ix h g)
    isplitr; · iexact Hmw
    isplitl [Hh]; · iexact Hh
    isplitl [Ho2]; · unfold outPts; iexact Ho2
    isplitl [HA2] <;> iassumption
  iintro %_ ⟨Hh, Ho2, HA2, HB2⟩
  iapply (wp_wand_r frame _ _)
  isplitl [Hh Ho3 HA3 HB3]
  · iapply (chunk_step d L O W 3 cc2_scoped6 cc2_scoped7 qt ql t ix h g)
    isplitr; · iexact Hmw
    isplitl [Hh]; · iexact Hh
    isplitl [Ho3]; · unfold outPts; iexact Ho3
    isplitl [HA3] <;> iassumption
  iintro %_ ⟨Hh, Ho3, HA3, HB3⟩
  iapply (wp_wand_r frame _ _)
  isplitl [Hh Ho4 HA4 HB4]
  · iapply (chunk_step d L O W 4 cc2_scoped8 cc2_scoped9 qt ql t ix h g)
    isplitr; · iexact Hmw
    isplitl [Hh]; · iexact Hh
    isplitl [Ho4]; · unfold outPts; iexact Ho4
    isplitl [HA4] <;> iassumption
  iintro %_ ⟨Hh, Ho4, HA4, HB4⟩
  iapply (wp_wand_r frame _ _)
  isplitl [Hh Ho5 HA5 HB5]
  · iapply (chunk_step d L O W 5 cc2_scoped10 cc2_scoped11 qt ql t ix h g)
    isplitr; · iexact Hmw
    isplitl [Hh]; · iexact Hh
    isplitl [Ho5]; · unfold outPts; iexact Ho5
    isplitl [HA5] <;> iassumption
  iintro %_ ⟨Hh, Ho5, HA5, HB5⟩
  iapply (wp_wand_r frame _ _)
  isplitl [Hh Ho6 HA6 HB6]
  · iapply (chunk_step d L O W 6 cc2_scoped12 cc2_scoped13 qt ql t ix h g)
    isplitr; · iexact Hmw
    isplitl [Hh]; · iexact Hh
    isplitl [Ho6]; · unfold outPts; iexact Ho6
    isplitl [HA6] <;> iassumption
  iintro %_ ⟨Hh, Ho6, HA6, HB6⟩
  iapply (wp_wand_r frame _ _)
  isplitl [Hh Ho7 HA7 HB7]
  · iapply (chunk_step d L O W 7 cc2_scoped14 cc2_scoped15 qt ql t ix h g)
    isplitr; · iexact Hmw
    isplitl [Hh]; · iexact Hh
    isplitl [Ho7]; · unfold outPts; iexact Ho7
    isplitl [HA7] <;> iassumption
  iintro %_ ⟨Hh, Ho7, HA7, HB7⟩
  unfold held outPts
  icases Hh with ⟨Ht, Hl, Hs, Hr, HG, HO⟩
  isplitl [Ht Hl Ho0 Ho1 Ho2 Ho3 Ho4 Ho5 Ho6 Ho7]
  · isplitl [Ht]; · iexact Ht
    isplitl [Hl]; · iexact Hl
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  isplitl [Hs Hr Hbufs]
  · isplitl [Hs]; · iexact Hs
    isplitl [Hr]; · iexact Hr
    iexact Hbufs
  isplitr [HO]
  · isplitr [Hsems]
    · isplitl [HG]; · iexact HG
      isplitl [HA0]; · iexact HA0
      isplitl [HB0]; · iexact HB0
      isplitl [HA1]; · iexact HA1
      isplitl [HB1]; · iexact HB1
      isplitl [HA2]; · iexact HA2
      isplitl [HB2]; · iexact HB2
      isplitl [HA3]; · iexact HA3
      isplitl [HB3]; · iexact HB3
      isplitl [HA4]; · iexact HA4
      isplitl [HB4]; · iexact HB4
      isplitl [HA5]; · iexact HA5
      isplitl [HB5]; · iexact HB5
      isplitl [HA6]; · iexact HA6
      isplitl [HB6]; · iexact HB6
      isplitl [HA7]; · iexact HA7
      iexact HB7
    iexact Hsems
  iexact HO

end Tile

end Cert.Mlp

end
-- ==== Proof.Deal.lean ====
module

public import proofs.«01_k».proof.Proof.Common
public import proofs.«01_k».proof.Proof.Gen.KernelIdeal.Launch
public import proofs.«01_k».proof.Proof.Gen.KernelIdeal.Points
public import proofs.«01_k».proof.Proof.Gen.KernelIdeal.Regions
public import Idealize.ShloMosaic.Lib.Ring
public import Idealize.ShloMosaic.Lib.Writes
public import Idealize.ShloMosaic.Lib.ViewIndex
public import Idealize.ShloMosaic.Lib.ValueIdx
public import Idealize.ShloMosaic.Lib.VecWindow
public import proofs.«01_k».proof.Proof.TileBody

@[expose] public section

noncomputable section

namespace Cert.Mlp

open Cert.KernelIdeal Cert.KernelIdeal.Gen

open Idealize.ShloMosaic
open Idealize.ShloMosaic.ValueIdx (ix1 ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The three arrays dealt to the thirty-two tiles -/

/-- The grid point of a SparseCore and a tile. -/
def coordsV (c : Fin 2) (i : Fin 16) : grid2.Coords :=
  fun | 0 => (c : Fin (grid2.bound 0)) | 1 => (i : Fin (grid2.bound 1)) | ⟨_ + 2, h⟩ => absurd h (Nat.not_lt.2 (Nat.le_add_left _ _))

/-- A chunk of the result, as the rows it has. -/
theorem mem_outSet (c : Fin 2) (i : Fin 16) (r : Fin 8) (x : S819200x16.Idx) :
    x ∈ outSet (coordsV c i) r ↔ 51200 * i.val + 25600 * c.val + 3200 * r.val ≤ (x 0).val ∧ (x 0).val < 51200 * i.val + 25600 * c.val + 3200 * r.val + 3200 := by
  have e : outSet (coordsV c i) r = (Rect.unit (s := S819200x16) (k2_off2 (coordsV c i) (off r)) S3200x16.size (k2_off2_inb (coordsV c i) r)).set :=
    View.set_slice_whole _ _
  rw [e, Rect.mem_set_unit]
  have hk := k2_off2_eq (coordsV c i) r
  have h0 : k2_off2 (coordsV c i) (off r) 0 = 51200 * i.val + 25600 * c.val + 3200 * r.val := congrFun hk 0
  have h1 : k2_off2 (coordsV c i) (off r) 1 = 0 := congrFun hk 1
  constructor
  · intro h
    have := h 0
    rw [h0] at this
    exact this
  · intro h a
    match a with
    | ⟨0, _⟩ =>
      have : k2_off2 (coordsV c i) (off r) 0 ≤ (x 0).val ∧ (x 0).val < k2_off2 (coordsV c i) (off r) 0 + 3200 := by rw [h0]; exact h
      exact this
    | ⟨1, _⟩ =>
      have : k2_off2 (coordsV c i) (off r) 1 ≤ (x 1).val ∧ (x 1).val < k2_off2 (coordsV c i) (off r) 1 + 16 := by
        rw [h1]; exact ⟨Nat.zero_le _, by rw [Nat.zero_add]; exact (x 1).isLt⟩
      exact this

/-- Two chunks share no row; -/
theorem chunks_disjoint (a b : Fin 2 × Fin 16 × Fin 8) (h : a ≠ b) :
    Disjoint (outSet (coordsV a.1 a.2.1) a.2.2) (outSet (coordsV b.1 b.2.1) b.2.2) := by
  rw [Finset.disjoint_left]
  intro x hx hy
  rw [mem_outSet] at hx hy
  obtain ⟨a0, a1, a2⟩ := a
  obtain ⟨b0, b1, b2⟩ := b
  have := a0.isLt; have := a1.isLt; have := a2.isLt; have := b0.isLt; have := b1.isLt; have := b2.isLt
  apply h
  dsimp only at hx hy
  refine Prod.ext (Fin.ext ?_) (Prod.ext (Fin.ext ?_) (Fin.ext ?_)) <;> dsimp only <;> omega

/-- together they are every row. -/
theorem chunks_cover : (Finset.univ : Finset (Fin 2 × Fin 16 × Fin 8)).biUnion (fun a => outSet (coordsV a.1 a.2.1) a.2.2) = Finset.univ := by
  ext x
  simp only [Finset.mem_biUnion, Finset.mem_univ, true_and, iff_true]
  have hx : (x 0).val < 819200 := (x 0).isLt
  refine ⟨(⟨(x 0).val / 25600 % 2, by omega⟩, ⟨(x 0).val / 51200, by omega⟩, ⟨(x 0).val % 25600 / 3200, by omega⟩), ?_⟩
  rw [mem_outSet]
  dsimp only
  omega

section Deal

variable (d : Dev nD)

/-- The share of a read array a tile is lent, and what stays behind. -/
abbrev tok (c : Fin 2) (i : Fin 16) : PosShare TreeShare := Transfers.shareTok fullShare 32 (finProdFinEquiv (c, i))
abbrev rest : PosShare TreeShare := Transfers.shareDrop fullShare 32

omit [FloatOps F] in
/-- A read array is its tiles' shares and the rest. -/
theorem read_deal (ℓ : Loc nD τ sig) (f : Buf (Elt F) ℓ) :
    (ℓ ↦{fullShare} f : sProp 𝕄) ⊣⊢ iprop((ℓ ↦{rest} f) ∗ bigSep Finset.univ fun c : Fin 2 => bigSep Finset.univ fun i : Fin 16 => ℓ ↦{tok c i} f) := by
  have h := Transfers.pointsTo_toks (Ix := HIx 1) (Name := ℕ) (U := UU) (Lvl := ℕ) (ℓ := ℓ) (S := Finset.univ) (f := f) fullShare 32
  rw [BI.bigSep_univ_equiv (finProdFinEquiv (m := 2) (n := 16)), BI.bigSep_univ_prod] at h
  exact h

omit [FloatOps F] in
/-- The result is its chunks. -/
theorem out_deal (g : Buf (Elt F) (outLoc d)) :
    (outLoc d ↦{fullShare} g : sProp 𝕄) = bigSep Finset.univ fun c : Fin 2 => bigSep Finset.univ fun i : Fin 16 => bigSep Finset.univ fun r : Fin 8 =>
      outLoc d ↦[outSet (coordsV c i) r]{fullShare} g := by
  have h := pointsTo_biUnion (Ix := HIx 1) (Name := ℕ) (U := UU) (Lvl := ℕ) (ℓ := outLoc d) (q := fullShare) (f := g)
    (Finset.univ : Finset (Fin 2 × Fin 16 × Fin 8)) (fun a => outSet (coordsV a.1 a.2.1) a.2.2) (fun a _ b _ hab => chunks_disjoint a b hab)
  rw [show (Finset.univ : Finset (Fin 2 × Fin 16 × Fin 8)).biUnion (β := Idx (outLoc d)) (fun a => outSet (coordsV a.1 a.2.1) a.2.2) = Finset.univ from chunks_cover] at h
  rw [h, BI.bigSep_univ_prod]
  exact bigSep_congr fun c _ => BI.bigSep_univ_prod _

omit [FloatOps F] in
/-- The three arrays are what the tiles are handed and the rest of the two read arrays. -/
theorem deal (t : Buf (Elt F) (tblLoc d)) (ix : IVec S819200 32) (g : Buf (Elt F) (outLoc d)) :
    (iprop((tblLoc d ↦{fullShare} t) ∗ (lstLoc d ↦{fullShare} (ix : Buf (Elt F) (lstLoc d))) ∗ (outLoc d ↦{fullShare} g)) : sProp 𝕄)
      ⊣⊢ iprop(((tblLoc d ↦{rest} t) ∗ (lstLoc d ↦{rest} (ix : Buf (Elt F) (lstLoc d))))
        ∗ bigSep Finset.univ fun c : Fin 2 => bigSep Finset.univ fun i : Fin 16 => tileIn d (coordsV c i) (tok c i) (tok c i) t ix g) := by
  have e : (bigSep Finset.univ fun c : Fin 2 => bigSep Finset.univ fun i : Fin 16 => (tileIn d (coordsV c i) (tok c i) (tok c i) t ix g : sProp 𝕄))
      = iprop((bigSep Finset.univ fun c : Fin 2 => bigSep Finset.univ fun i : Fin 16 => tblLoc d ↦{tok c i} t)
        ∗ (bigSep Finset.univ fun c : Fin 2 => bigSep Finset.univ fun i : Fin 16 => lstLoc d ↦{tok c i} (ix : Buf (Elt F) (lstLoc d)))
        ∗ (bigSep Finset.univ fun c : Fin 2 => bigSep Finset.univ fun i : Fin 16 => bigSep Finset.univ fun r : Fin 8 =>
            outLoc d ↦[outSet (coordsV c i) r]{fullShare} g)) := by
    unfold tileIn
    rw [← bigSep_sep', ← bigSep_sep']
    refine bigSep_congr fun c _ => ?_
    rw [← bigSep_sep', ← bigSep_sep']
  rw [e, ← out_deal]
  constructor
  · iintro ⟨Ht, Hl, Ho⟩
    ihave Ht := (read_deal (tblLoc d) t).1 $$ Ht
    ihave Hl := (read_deal (lstLoc d) ix).1 $$ Hl
    icases Ht with ⟨Ht, Hts⟩
    icases Hl with ⟨Hl, Hls⟩
    isplitl [Ht Hl]
    · isplitl [Ht] <;> iassumption
    isplitl [Hts]; · iexact Hts
    isplitl [Hls] <;> iassumption
  · iintro ⟨⟨Ht, Hl⟩, Hts, Hls, Ho⟩
    isplitl [Ht Hts]
    · iapply (read_deal (tblLoc d) t).2
      isplitl [Ht] <;> iassumption
    isplitl [Hl Hls]
    · iapply (read_deal (lstLoc d) ix).2
      isplitl [Hl] <;> iassumption
    iexact Ho

end Deal

end Cert.Mlp

end
-- ==== Proof.MainRun.lean ====
module

public import proofs.«01_k».proof.Proof.Common
public import proofs.«01_k».proof.Proof.Gen.KernelIdeal.Launch
public import proofs.«01_k».proof.Proof.Gen.KernelIdeal.Points
public import proofs.«01_k».proof.Proof.Gen.KernelIdeal.Regions
public import Idealize.ShloMosaic.Lib.Ring
public import Idealize.ShloMosaic.Lib.Writes
public import Idealize.ShloMosaic.Lib.ViewIndex
public import Idealize.ShloMosaic.Lib.ValueIdx
public import Idealize.ShloMosaic.Lib.VecWindow
public import proofs.«01_k».proof.Proof.HostOps
public import proofs.«01_k».proof.Proof.Deal
public import Idealize.ShloMosaic.Lib.Pipeline.RegionArrays
public import Idealize.ShloMosaic.Lib.Pipeline.FrameBody

@[expose] public section

noncomputable section

namespace Cert.Mlp

open Cert.KernelIdeal Cert.KernelIdeal.Gen

open Idealize.ShloMosaic
open Idealize.ShloMosaic.ValueIdx (ix1 ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)
open Idealize.ShloMosaic.StableHlo (seq after launchContents held_sub_split held_congr tcRefs)
open Idealize.ShloMosaic.Pipeline (ucRefs)

variable {F : FTy → Type} [FloatOps F]

local notation "𝕄" => MT nD τ sig (HIx 1) (Elt F) ℕ UU ℕ

/-! ## What the program's buffers hold after each of its parts -/

/-- A pipeline's call inside the program, by the pipeline's record. -/
theorem region_wp [∀ e, Nonempty (Elt F e)] (V : (c : Dev nD) → (b : Ref sig .tc) → Buf (Elt F) (tcLoc c b)) {p : Fin 2}
    (R : Pipeline.RegionSeg (pcfgs (F := F)) adm (pdats V) (none : HIx 1) defs₀ 𝒱₀ (K (F := F)).L (K (F := F)).lev p) (d : Dev nD) (Φ : PUnit → sProp 𝕄) :
    iprop(levAts (K (F := F)).L (K (F := F)).lev ∗ boundary (T d) ∗ R.pre d
        ∗ Pipeline.cellsGhost (Pipeline.pin (pcfgs (F := F)) adm) EP p d ∗ Pipeline.toksInit (Pipeline.pin (pcfgs (F := F)) adm) EP p d
        ∗ ((boundary (T d) ∗ R.post d) -∗ Φ ⟨⟩))
      ⊢ wp frame (wpE ((K (F := F)).defs (D (F := F))) 𝒱 (T d) none) Set.univ (Prog.lift (.customCall (SparseCore.inner (Pipeline.entry p)) ())) Φ := by
  refine .trans ?_ ((K (F := F)).wp_liftProg (D (F := F)) 𝒱 (T d) Set.univ none (.op (.customCall (Pipeline.entry p) ()) .ret) Φ)
  have h := Pipeline.RegionSeg.wp (pcfgs (F := F)) adm (pdats V) none cellOf_inj EP defs₀ 𝒱₀ _ _ R d none (fun _ h => nomatch h) .ret Φ
  iintro ⟨Hl, Hb, Hp, Hc, Ht, Hk⟩
  iapply h
  isplitl [Hk]
  · iintro H; rw [wp_ret]; imodintro; iapply Hk; iexact H
  isplitl [Hb]; · iexact Hb
  isplitl [Hp]; · iexact Hp
  isplitl [Hl]; · iexact Hl
  isplitl [Hc] <;> iassumption

section State

variable (m : (ℓ : Loc nD τ sig) → Buf (Elt F) ℓ)

/-- The TensorCore's buffers, out of all a device's. -/
abbrev tcV (W : Dev nD → Valuation τ sig (Elt F)) : (c : Dev nD) → (b : Ref sig .tc) → Buf (Elt F) (tcLoc c b) :=
  fun c b => W c (Proc.devRef .tc b)

/-- After the host work before the first pipeline, -/
def W1 (d : Dev nD) : Valuation τ sig (Elt F) := after opsA (launchContents m d)
/-- after the first pipeline, -/
def W2 (d : Dev nD) : Valuation τ sig (Elt F) := Function.update (W1 m d) (Proc.devRef .tc main_v12) ((dat0 (tcV (W1 m)) d).arrAt 2 cfg0.N)
/-- after the host work between the pipelines, -/
def W3 (d : Dev nD) : Valuation τ sig (Elt F) := after opsB (W2 m d)
/-- after the second pipeline, -/
def W4 (d : Dev nD) : Valuation τ sig (Elt F) := Function.update (W3 m d) (Proc.devRef .tc main_v23) ((dat1 (tcV (W3 m)) d).arrAt 1 cfg1.N)
/-- and after the host work before the gather. -/
def W5 (d : Dev nD) : Valuation τ sig (Elt F) := after opsC (W4 m d)

/-- The packed table the gather reads, and the rows it reads. -/
def tblOf (d : Dev nD) : FVec F S1000000x16 .f32 := W5 m d (Proc.devRef .tc main_v38)
def rowsOf (d : Dev nD) : IVec S819200 32 := W5 m d (Proc.devRef .tc main_v37)

/-- What the run asks of the launch memory: every row the gather reads is one of the table's. -/
def RowsOk : Prop := ∀ (d : Dev nD) (n : S819200.Idx), (rowsOf m d n).toNat < 1000000

variable (h : RowsOk m)

/-- After the gather, -/
def W6 (d : Dev nD) : Valuation τ sig (Elt F) := Function.update (W5 m d) (Proc.devRef .tc main_v39) (gathered (tblOf m d) (rowsOf m d) (h d))
/-- and at the end. -/
def W7 (d : Dev nD) : Valuation τ sig (Elt F) := after opsD (W6 m h d)

end State

/-! ## Buffers taken out of the program's, and put back -/

section Take

variable (d : Dev nD) (W : Valuation τ sig (Elt F))

/-- A device's buffers named by TensorCore references. -/
abbrev refs (S : Finset (Ref sig .tc)) : Finset (DevRef τ sig) := S.map ⟨Proc.devRef (sig := sig) (.tc : Proc τ), Proc.devRef_injective _⟩

omit [FloatOps F] in
/-- Unscoped ones out of all. -/
theorem held_take (S : Finset (Ref sig .tc)) (hS : ∀ b ∈ S, b.isScoped = false) :
    (StableHlo.held (T d : Thread nD τ) (ucRefs τ sig) W : sProp 𝕄)
      = iprop((bigSep S fun b => tcLoc d b ↦{fullShare} W (Proc.devRef .tc b)) ∗ StableHlo.held (T d : Thread nD τ) (ucRefs τ sig \ refs S) W) := by
  rw [held_sub_split (T d : Thread nD τ) (T := refs S)]
  · congr 1
    unfold StableHlo.held
    rw [bigSep_map]; rfl
  · intro b hb
    obtain ⟨r, hr, rfl⟩ := Finset.mem_map.mp hb
    refine Finset.mem_filter.mpr ⟨StableHlo.devRef_mem_tcRefs r, ?_⟩
    intro h'
    exact Bool.false_ne_true ((hS r hr).symm.trans h')

omit [FloatOps F] in
/-- A buffer among those taken may change beneath the rest. -/
theorem held_rest_update (S : Finset (Ref sig .tc)) (r : Ref sig .tc) (hr : r ∈ S) (f : (Proc.devRef (τ := τ) .tc r).ty.Contents (Elt F)) :
    (StableHlo.held (T d : Thread nD τ) (ucRefs τ sig \ refs S) W : sProp 𝕄)
      = StableHlo.held (T d : Thread nD τ) (ucRefs τ sig \ refs S) (Function.update W (Proc.devRef .tc r) f) := by
  refine held_congr (T d : Thread nD τ) fun b hb => ?_
  rw [Function.update_of_ne]
  rintro rfl
  exact (Finset.mem_sdiff.mp hb).2 (Finset.mem_map_of_mem _ hr)

omit [FloatOps F] in
theorem bigSep_four (a b c e : Ref sig .tc) (h : [a, b, c, e].Nodup) (Φ : Ref sig .tc → sProp 𝕄) :
    bigSep ({a, b, c, e} : Finset (Ref sig .tc)) Φ = iprop(Φ a ∗ Φ b ∗ Φ c ∗ Φ e) :=
  bigSep_eq_bigSepL_of_eq [a, b, c, e] (by ext; simp) h Φ
omit [FloatOps F] in
theorem bigSep_three (a b c : Ref sig .tc) (h : [a, b, c].Nodup) (Φ : Ref sig .tc → sProp 𝕄) :
    bigSep ({a, b, c} : Finset (Ref sig .tc)) Φ = iprop(Φ a ∗ Φ b ∗ Φ c) :=
  bigSep_eq_bigSepL_of_eq [a, b, c] (by ext; simp) h Φ
omit [FloatOps F] in
theorem bigSep_two (a b : Ref sig .tc) (h : [a, b].Nodup) (Φ : Ref sig .tc → sProp 𝕄) :
    bigSep ({a, b} : Finset (Ref sig .tc)) Φ = iprop(Φ a ∗ Φ b) :=
  bigSep_eq_bigSepL_of_eq [a, b] (by ext; simp) h Φ

omit [FloatOps F] in
theorem devRef_ne {a b : Ref sig .tc} (h : a ≠ b) : (Proc.devRef .tc a : DevRef τ sig) ≠ Proc.devRef .tc b := StableHlo.devRef_ne_of_ne h

omit [FloatOps F] in
/-- The first pipeline's arrays. -/
theorem take_first : (StableHlo.held (T d : Thread nD τ) (ucRefs τ sig) W : sProp 𝕄)
    = iprop(((tcLoc d main_v10 ↦{fullShare} W (Proc.devRef .tc main_v10)) ∗ (tcLoc d main_v11 ↦{fullShare} W (Proc.devRef .tc main_v11))
        ∗ (tcLoc d main_v9 ↦{fullShare} W (Proc.devRef .tc main_v9)) ∗ (tcLoc d main_v12 ↦{fullShare} W (Proc.devRef .tc main_v12)))
      ∗ StableHlo.held (T d : Thread nD τ) (ucRefs τ sig \ refs {main_v10, main_v11, main_v9, main_v12}) W) := by
  rw [held_take d W {main_v10, main_v11, main_v9, main_v12} (by decide), bigSep_four _ _ _ _ (by decide)]

omit [FloatOps F] in
/-- The second pipeline's. -/
theorem take_second : (StableHlo.held (T d : Thread nD τ) (ucRefs τ sig) W : sProp 𝕄)
    = iprop(((tcLoc d main_v22 ↦{fullShare} W (Proc.devRef .tc main_v22)) ∗ (tcLoc d main_v23 ↦{fullShare} W (Proc.devRef .tc main_v23)))
      ∗ StableHlo.held (T d : Thread nD τ) (ucRefs τ sig \ refs {main_v22, main_v23}) W) := by
  rw [held_take d W {main_v22, main_v23} (by decide), bigSep_two _ _ (by decide)]

omit [FloatOps F] in
/-- The gather's. -/
theorem take_third : (StableHlo.held (T d : Thread nD τ) (ucRefs τ sig) W : sProp 𝕄)
    = iprop(((tblLoc d ↦{fullShare} W (Proc.devRef .tc main_v38)) ∗ (lstLoc d ↦{fullShare} W (Proc.devRef .tc main_v37))
        ∗ (outLoc d ↦{fullShare} W (Proc.devRef .tc main_v39)))
      ∗ StableHlo.held (T d : Thread nD τ) (ucRefs τ sig \ refs {main_v38, main_v37, main_v39}) W) := by
  rw [held_take d W {main_v38, main_v37, main_v39} (by decide), bigSep_three _ _ _ (by decide)]

end Take

end Cert.Mlp

end
-- ==== Proof.Handoff.lean ====
module

public import proofs.«01_k».proof.Proof.Common
public import proofs.«01_k».proof.Proof.Gen.KernelIdeal.Launch
public import proofs.«01_k».proof.Proof.Gen.KernelIdeal.Points
public import proofs.«01_k».proof.Proof.Gen.KernelIdeal.Regions
public import Idealize.ShloMosaic.Lib.Ring
public import Idealize.ShloMosaic.Lib.Writes
public import Idealize.ShloMosaic.Lib.ViewIndex
public import Idealize.ShloMosaic.Lib.ValueIdx
public import Idealize.ShloMosaic.Lib.VecWindow
public import proofs.«01_k».proof.Proof.MainRun
public import Idealize.ShloMosaic.Lib.Pipeline.RegionArrays
public import Idealize.ShloMosaic.Lib.Pipeline.FrameBody

@[expose] public section

noncomputable section

namespace Cert.Mlp

open Cert.KernelIdeal Cert.KernelIdeal.Gen

open Idealize.ShloMosaic
open Idealize.ShloMosaic.ValueIdx (ix1 ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)
open Idealize.ShloMosaic.StableHlo (seq after launchContents held_sub_split held_congr tcRefs)
open Idealize.ShloMosaic.Pipeline (ucRefs)

variable {F : FTy → Type} [FloatOps F]

local notation "𝕄" => MT nD τ sig (HIx 1) (Elt F) ℕ UU ℕ

/-! ## What the SparseCore call hands over -/

section Launch

variable (m : (ℓ : Loc nD τ sig) → Buf (Elt F) ℓ) (h : RowsOk m)

/-- What tile `i` of SparseCore `c` is handed: its shares and its piece of the result, as the program left it; -/
def goRes (d : Dev nD) (c : Fin 2) (i : Fin 16) : sProp 𝕄 :=
  tileIn d (coordsV c i) (tok c i) (tok c i) (tblOf m d) (rowsOf m d) (W5 m d (Proc.devRef .tc main_v39))
/-- and what it hands back: the same with its rows gathered. -/
def tdRes (d : Dev nD) (c : Fin 2) (i : Fin 16) : sProp 𝕄 :=
  tileIn d (coordsV c i) (tok c i) (tok c i) (tblOf m d) (rowsOf m d) (gathered (tblOf m d) (rowsOf m d) (h d) : Buf (Elt F) (outLoc d))

def P : (K (F := F)).Pay (nD := nD) (Val := Elt F) (Name := ℕ) (U := UU) where
  st := fun q d c => match q with | 0 => bigSep Finset.univ fun i : Fin 16 => goRes m d c i
  dn := fun q d c => match q with | 0 => bigSep Finset.univ fun i : Fin 16 => tdRes m h d c i
  go := fun q d c i => match q with | 0 => goRes m d c i
  td := fun q d c i => match q with | 0 => tdRes m h d c i
  x := fun _ _ => iprop(emp)

instance goRes_storable (d : Dev nD) (c : Fin 2) (i : Fin 16) : BI.Storable (upEmb : UEmb _ 𝕄) (goRes m d c i) := by
  unfold goRes tileIn; infer_instance
instance tdRes_storable (d : Dev nD) (c : Fin 2) (i : Fin 16) : BI.Storable (upEmb : UEmb _ 𝕄) (tdRes m h d c i) := by
  unfold tdRes tileIn; infer_instance

instance P_storable : (P (F := F) m h).IsStorable where
  st q d c := match q with | 0 => (inferInstance : BI.Storable (upEmb : UEmb _ 𝕄) (bigSep Finset.univ fun i : Fin 16 => goRes m d c i))
  dn q d c := match q with | 0 => (inferInstance : BI.Storable (upEmb : UEmb _ 𝕄) (bigSep Finset.univ fun i : Fin 16 => tdRes m h d c i))
  go q d c i := match q with | 0 => goRes_storable m d c i
  td q d c i := match q with | 0 => tdRes_storable m h d c i

/-! ## The tile's obligation -/

theorem defs₀_vector (c : Fin τ.nSC) (s : Fin τ.nSub) :
    defs₀ (F := F) (.scVector c s) 2 () = SparseCore.onTile hcore2 hsub2 (fun c s => tileProg (F := F) (coordsV c s)) ⟨⟩ c s := rfl

omit [FloatOps F] in
/-- A wait recorded by a tile without an index is within what the call allows. -/
theorem obl_post {thr : Thread nD τ} {W : Waits sig (HIx 1)} {O : CellTallies nD τ sig (HIx 1)} {A B C : sProp 𝕄} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some (0 : Fin 1)⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  iexact HO

set_option maxRecDepth 16384 in
theorem tileObl (hF : (K (F := F)).Facts) : (K (F := F)).TileObl (D (F := F)) 𝒱 (P m h) v₀ 0 := by
  intro d c i O W hO _ _
  simp only [show (P m h).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (tok c i) (tok c i) (tblOf m d) (rowsOf m d) (h d) (W5 m d (Proc.devRef .tc main_v39)) O W hO).trans
    (wp_mono frame _ _ fun _ => obl_post)

theorem vecSplit : (K (F := F)).VecSplit' (P m h) 0 := by
  intro d c
  show (bigSep Finset.univ fun i : Fin 16 => goRes m d c i) ⊢ |={Set.univ}=> iprop(
      (bigSep Finset.univ fun i : Fin 16 => goRes m d c i)
      ∗ ((bigSep Finset.univ fun i : Fin 16 => tdRes m h d c i) -∗ (bigSep Finset.univ fun i : Fin 16 => tdRes m h d c i)))
  iintro H; imodintro
  isplitl [H]; · iexact H
  iintro H; iexact H

/-! ## The launch's ghost state -/

/-- The two pipelines' cells and tokens at the launch. -/
def pipes₀ : UP := initOf (Pipeline.cells (τ := τ) (nD := nD) (Pipeline.pin (pcfgs (F := F)) adm) cellOf_inj)
  (Pipeline.launchToks (τ := τ) (nD := nD) (Pipeline.pin (pcfgs (F := F)) adm) cellOf_inj)
def u₀ : UU := (initOf (K (F := F)).hsCells (K (F := F)).hsToks, (pipes₀ (F := F), 1))

/-- The pipelines' ghost state on device `d`. -/
def G (d : Dev nD) : sProp 𝕄 :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m h).x q thr) := by
  unfold u₀
  iintro Hu
  ihave H := (show ownU (initOf (K (F := F)).hsCells (K (F := F)).hsToks, (pipes₀ (F := F), (1 : Counters)))
      ⊢ (iprop(BI.own (EH (initOf (K (F := F)).hsCells (K (F := F)).hsToks)) ∗ BI.own (((Emb.inr : Emb (UP × Counters) UU).trans EU) (pipes₀ (F := F), 1))) : sProp 𝕄) from
    own_pair_emb EU (initOf (K (F := F)).hsCells (K (F := F)).hsToks) (pipes₀ (F := F), 1)) $$ Hu
  icases H with ⟨HH, HP⟩
  ihave H := (show BI.own (((Emb.inr : Emb (UP × Counters) UU).trans EU) (pipes₀ (F := F), 1))
      ⊢ (iprop(BI.own (EP (pipes₀ (F := F))) ∗ BI.own (((Emb.inr : Emb Counters (UP × Counters)).trans ((Emb.inr : Emb (UP × Counters) UU).trans EU)) 1)) : sProp 𝕄) from
    own_pair_emb ((Emb.inr : Emb (UP × Counters) UU).trans EU) (pipes₀ (F := F)) (1 : Counters)) $$ HP
  icases H with ⟨HP, -⟩
  ihave HP := (show BI.own (EP (pipes₀ (F := F))) ⊢ (BI.own (EP (initOf (Pipeline.cells (τ := τ) (nD := nD) (Pipeline.pin (pcfgs (F := F)) adm) cellOf_inj)
    (Pipeline.launchToks (τ := τ) (nD := nD) (Pipeline.pin (pcfgs (F := F)) adm) cellOf_inj))) : sProp 𝕄) from .rfl) $$ HP
  imod (Pipeline.fund_ghost (τ := τ) (nD := nD) (Pipeline.pin (pcfgs (F := F)) adm) EP cellOf_inj) $$ HP with ⟨Hc, Ht⟩
  imodintro
  isplitl [HH]; · iexact HH
  isplitl [Hc Ht]
  · unfold G; rw [bigSep_sep']
    isplitl [Hc] <;> iassumption
  rw [show (bigSep Finset.univ fun thr : Thread nD τ => bigSep Finset.univ fun q : Fin 1 => (P (F := F) m h).x q thr) = bigSep Finset.univ fun _ => iprop(emp) from
    bigSep_congr fun _ _ => bigSep_univ_of_subsingleton (0 : Fin 1), bigSep_emp']
  iempintro

end Launch

end Cert.Mlp

end
-- ==== Proof.Run.lean ====
module

public import proofs.«01_k».proof.Proof.Common
public import proofs.«01_k».proof.Proof.Gen.KernelIdeal.Launch
public import proofs.«01_k».proof.Proof.Gen.KernelIdeal.Points
public import proofs.«01_k».proof.Proof.Gen.KernelIdeal.Regions
public import Idealize.ShloMosaic.Lib.Ring
public import Idealize.ShloMosaic.Lib.Writes
public import Idealize.ShloMosaic.Lib.ViewIndex
public import Idealize.ShloMosaic.Lib.ValueIdx
public import Idealize.ShloMosaic.Lib.VecWindow
public import proofs.«01_k».proof.Proof.Handoff
public import Idealize.ShloMosaic.Lib.Pipeline.RegionArrays
public import Idealize.ShloMosaic.Lib.Pipeline.FrameBody

@[expose] public section

noncomputable section

namespace Cert.Mlp

open Cert.KernelIdeal Cert.KernelIdeal.Gen

open Idealize.ShloMosaic
open Idealize.ShloMosaic.ValueIdx (ix1 ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)
open Idealize.ShloMosaic.StableHlo (seq after launchContents held_sub_split held_congr tcRefs)
open Idealize.ShloMosaic.Pipeline (ucRefs)

variable {F : FTy → Type} [FloatOps F]

local notation "𝕄" => MT nD τ sig (HIx 1) (Elt F) ℕ UU ℕ

/-! ## The program on the TensorCore -/

omit [FloatOps F] in
/-- A list of operations on TensorCore references touches unscoped buffers only. -/
theorem sub_of_forall {ops : List (HloOp τ sig (Elt F))} (h : ops.Forall fun op => op.bufs ⊆ tcRefs τ sig) : ∀ op ∈ ops, op.bufs ⊆ ucRefs τ sig :=
  fun op ho => Pipeline.sub_ucRefs op ((List.forall_iff_forall_mem.mp h) op ho)

omit [FloatOps F] in
theorem fresh_of_forall {ops : List (HloOp τ sig (Elt F))} (h : ops.Forall fun op => op.fresh = ∅) : ∀ op ∈ ops, op.fresh = ∅ :=
  fun op ho => (List.forall_iff_forall_mem.mp h) op ho

theorem opsC_sub : (opsC (F := F)).Forall fun op => op.bufs ⊆ tcRefs τ sig := by
  simp only [opsC, List.forall_append]
  exact ⟨opsC0_sub, rem1_sub, opsC1_sub, div1_sub, opsC2_sub, rem2_sub, opsC3_sub, div2_sub, opsC4_sub⟩

theorem opsC_fresh : (opsC (F := F)).Forall fun op => op.fresh = ∅ := by
  simp only [opsC, List.forall_append]
  exact ⟨opsC0_fresh, rem1_fresh, opsC1_fresh, div1_fresh, opsC2_fresh, rem2_fresh, opsC3_fresh, div2_fresh, opsC4_fresh⟩

/-- What the TensorCore holds of the handshakes before the call, besides what it owes. -/
def callRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some ((inferInstance : SparseCore.Cfg.Blocks 1 1).last q)) 1)))

theorem tcSt_out (d : Dev nD) : ((K (F := F)).tcSt EH d 0 : sProp 𝕄)
    ⊢ iprop(Pipeline.owesWithin d ((K (F := F)).Otc d 0) (below (F := F) d) ∗ callRest (F := F) d) := by
  unfold SparseCore.Cfg.tcSt callRest Pipeline.owesWithin
  iintro ⟨⟨%W, %hW, HO⟩, Hr⟩
  isplitl [HO]
  · iexists W; isplitr
    · ipureintro; exact fun p hp => hW p hp
    iexact HO
  iexact Hr

theorem tcSt_in (d : Dev nD) : iprop(Pipeline.owesWithin d ((K (F := F)).Otc d 0) (below (F := F) d) ∗ callRest (F := F) d)
    ⊢ ((K (F := F)).tcSt EH d 0 : sProp 𝕄) := by
  unfold SparseCore.Cfg.tcSt callRest Pipeline.owesWithin
  iintro ⟨⟨%W, %hW, HO⟩, Hr⟩
  isplitl [HO]
  · iexists W; isplitr
    · ipureintro; exact fun p hp => hW hp
    iexact HO
  iexact Hr

omit [FloatOps F] in
theorem bigSep_pipes (Φ : Fin 2 → sProp 𝕄) : bigSep Finset.univ Φ = iprop(Φ 0 ∗ Φ 1) := BI.bigSep_fin_two Φ

/-- The two pipelines' records, spelt out. -/
theorem reg0_pre (V : (c : Dev nD) → (b : Ref sig .tc) → Buf (Elt F) (tcLoc c b)) (c : Dev nD) : (reg0 V).pre c
    = iprop((tcLoc c main_v10 ↦{fullShare} V c main_v10) ∗ ((tcLoc c main_v11 ↦{fullShare} V c main_v11) ∗ (tcLoc c main_v9 ↦{fullShare} V c main_v9)
      ∗ (tcLoc c main_v12 ↦{fullShare} V c main_v12)) ∗ Pipeline.owesWithin c ((K (F := F)).Otc c 0) (below (F := F) c)) := rfl
theorem reg0_post (V : (c : Dev nD) → (b : Ref sig .tc) → Buf (Elt F) (tcLoc c b)) (c : Dev nD) : (reg0 V).post c
    = iprop((tcLoc c main_v10 ↦{fullShare} V c main_v10) ∗ ((tcLoc c main_v11 ↦{fullShare} V c main_v11) ∗ (tcLoc c main_v9 ↦{fullShare} V c main_v9)
      ∗ (tcLoc c main_v12 ↦{fullShare} (dat0 V c).arrAt 2 cfg0.N)) ∗ Pipeline.owesWithin c ((K (F := F)).Otc c 0) (below (F := F) c)) := rfl
theorem reg1_pre (V : (c : Dev nD) → (b : Ref sig .tc) → Buf (Elt F) (tcLoc c b)) (c : Dev nD) : (reg1 V).pre c
    = iprop(((tcLoc c main_v22 ↦{fullShare} V c main_v22) ∗ (tcLoc c main_v23 ↦{fullShare} V c main_v23))
      ∗ Pipeline.owesWithin c ((K (F := F)).Otc c 0) (below (F := F) c)) := rfl
theorem reg1_post (V : (c : Dev nD) → (b : Ref sig .tc) → Buf (Elt F) (tcLoc c b)) (c : Dev nD) : (reg1 V).post c
    = iprop(((tcLoc c main_v22 ↦{fullShare} V c main_v22) ∗ (tcLoc c main_v23 ↦{fullShare} (dat1 V c).arrAt 1 cfg1.N))
      ∗ Pipeline.owesWithin c ((K (F := F)).Otc c 0) (below (F := F) c)) := rfl

section Main

variable (m : (ℓ : Loc nD τ sig) → Buf (Elt F) ℓ) (h : RowsOk m)

/-- What the program ends with: every TensorCore array at its final contents. -/
abbrev FIN (d : Dev nD) : sProp 𝕄 := StableHlo.held (T d : Thread nD τ) (ucRefs τ sig) (W7 m h d)

/-- The first pipeline, over all the program's buffers. -/
theorem first_step [∀ e, Nonempty (Elt F e)] (d : Dev nD) (Φ : PUnit → sProp 𝕄) :
    iprop(levAts (K (F := F)).L (K (F := F)).lev ∗ boundary (T d) ∗ StableHlo.held (T d : Thread nD τ) (ucRefs τ sig) (W1 m d)
        ∗ Pipeline.owesWithin d ((K (F := F)).Otc d 0) (below (F := F) d)
        ∗ Pipeline.cellsGhost (Pipeline.pin (pcfgs (F := F)) adm) EP 0 d ∗ Pipeline.toksInit (Pipeline.pin (pcfgs (F := F)) adm) EP 0 d
        ∗ ((boundary (T d) ∗ StableHlo.held (T d : Thread nD τ) (ucRefs τ sig) (W2 m d) ∗ Pipeline.owesWithin d ((K (F := F)).Otc d 0) (below (F := F) d)) -∗ Φ ⟨⟩))
      ⊢ wp frame (wpE ((K (F := F)).defs (D (F := F))) 𝒱 (T d) none) Set.univ (Prog.lift (.customCall (SparseCore.inner (Pipeline.entry 0)) ())) Φ := by
  rw [take_first d (W1 m d), take_first d (W2 m d)]
  rw [held_rest_update d (W1 m d) {main_v10, main_v11, main_v9, main_v12} main_v12 (by decide) ((dat0 (tcV (W1 m)) d).arrAt 2 cfg0.N)]
  iintro ⟨#Hl, Hb, ⟨⟨H10, H11, H9, H12⟩, Hr⟩, HO, Hc, Ht, Hk⟩
  have hw := region_wp (tcV (W1 m)) (reg0 (tcV (W1 m))) d Φ
  rw [reg0_pre, reg0_post] at hw
  iapply hw
  isplitr; · iexact Hl
  isplitl [Hb]; · iexact Hb
  isplitl [H10 H11 H9 H12 HO]
  · isplitl [H10]; · iexact H10
    isplitl [H11 H9 H12]
    · isplitl [H11]; · iexact H11
      isplitl [H9] <;> iassumption
    iexact HO
  isplitl [Hc]; · iexact Hc
  isplitl [Ht]; · iexact Ht
  iintro ⟨Hb, H10, ⟨H11, H9, H12⟩, HO⟩
  iapply Hk
  isplitl [Hb]; · iexact Hb
  isplitr [HO]
  · isplitr [Hr]
    · rw [show W2 m d (Proc.devRef .tc main_v10) = W1 m d (Proc.devRef .tc main_v10) from Function.update_of_ne (devRef_ne (by decide)) _ _,
        show W2 m d (Proc.devRef .tc main_v11) = W1 m d (Proc.devRef .tc main_v11) from Function.update_of_ne (devRef_ne (by decide)) _ _,
        show W2 m d (Proc.devRef .tc main_v9) = W1 m d (Proc.devRef .tc main_v9) from Function.update_of_ne (devRef_ne (by decide)) _ _,
        show W2 m d (Proc.devRef .tc main_v12) = (dat0 (tcV (W1 m)) d).arrAt 2 cfg0.N from Function.update_self ..]
      isplitl [H10]; · iexact H10
      isplitl [H11]; · iexact H11
      isplitl [H9] <;> iassumption
    iexact Hr
  iexact HO

/-- The second. -/
theorem second_step [∀ e, Nonempty (Elt F e)] (d : Dev nD) (Φ : PUnit → sProp 𝕄) :
    iprop(levAts (K (F := F)).L (K (F := F)).lev ∗ boundary (T d) ∗ StableHlo.held (T d : Thread nD τ) (ucRefs τ sig) (W3 m d)
        ∗ Pipeline.owesWithin d ((K (F := F)).Otc d 0) (below (F := F) d)
        ∗ Pipeline.cellsGhost (Pipeline.pin (pcfgs (F := F)) adm) EP 1 d ∗ Pipeline.toksInit (Pipeline.pin (pcfgs (F := F)) adm) EP 1 d
        ∗ ((boundary (T d) ∗ StableHlo.held (T d : Thread nD τ) (ucRefs τ sig) (W4 m d) ∗ Pipeline.owesWithin d ((K (F := F)).Otc d 0) (below (F := F) d)) -∗ Φ ⟨⟩))
      ⊢ wp frame (wpE ((K (F := F)).defs (D (F := F))) 𝒱 (T d) none) Set.univ (Prog.lift (.customCall (SparseCore.inner (Pipeline.entry 1)) ())) Φ := by
  rw [take_second d (W3 m d), take_second d (W4 m d)]
  rw [held_rest_update d (W3 m d) {main_v22, main_v23} main_v23 (by decide) ((dat1 (tcV (W3 m)) d).arrAt 1 cfg1.N)]
  iintro ⟨#Hl, Hb, ⟨⟨H22, H23⟩, Hr⟩, HO, Hc, Ht, Hk⟩
  have hw := region_wp (tcV (W3 m)) (reg1 (tcV (W3 m))) d Φ
  rw [reg1_pre, reg1_post] at hw
  iapply hw
  isplitr; · iexact Hl
  isplitl [Hb]; · iexact Hb
  isplitl [H22 H23 HO]
  · isplitl [H22 H23]
    · isplitl [H22] <;> iassumption
    iexact HO
  isplitl [Hc]; · iexact Hc
  isplitl [Ht]; · iexact Ht
  iintro ⟨Hb, ⟨H22, H23⟩, HO⟩
  iapply Hk
  isplitl [Hb]; · iexact Hb
  isplitr [HO]
  · isplitr [Hr]
    · rw [show W4 m d (Proc.devRef .tc main_v22) = W3 m d (Proc.devRef .tc main_v22) from Function.update_of_ne (devRef_ne (by decide)) _ _,
        show W4 m d (Proc.devRef .tc main_v23) = (dat1 (tcV (W3 m)) d).arrAt 1 cfg1.N from Function.update_self ..]
      isplitl [H22] <;> iassumption
    iexact Hr
  iexact HO

/-- The gather's call. -/
theorem third_step (κ : GSem nD τ sig → ℕ) (d : Dev nD) (Φ : PUnit → sProp 𝕄) :
    iprop((K (F := F)).ctx EH (P m h) κ ∗ (K (F := F)).tcSt EH d 0 ∗ StableHlo.held (T d : Thread nD τ) (ucRefs τ sig) (W5 m d)
        ∗ (((K (F := F)).tcSt EH d 1 ∗ StableHlo.held (T d : Thread nD τ) (ucRefs τ sig) (W6 m h d)) -∗ Φ ⟨⟩))
      ⊢ wp frame (wpE ((K (F := F)).defs (D (F := F))) 𝒱 (T d) none) Set.univ (sc.run d 0) Φ := by
  rw [take_third d (W5 m d), take_third d (W6 m h d)]
  rw [held_rest_update d (W5 m d) {main_v38, main_v37, main_v39} main_v39 (by decide) (gathered (tblOf m d) (rowsOf m d) (h d))]
  iintro ⟨#Hctx, Hst, ⟨H3, Hr⟩, Hk⟩
  ihave H3 := (show iprop((tblLoc d ↦{fullShare} W5 m d (Proc.devRef .tc main_v38)) ∗ (lstLoc d ↦{fullShare} W5 m d (Proc.devRef .tc main_v37))
      ∗ (outLoc d ↦{fullShare} W5 m d (Proc.devRef .tc main_v39)))
      ⊢ (iprop(((tblLoc d ↦{rest} tblOf m d) ∗ (lstLoc d ↦{rest} (rowsOf m d : Buf (Elt F) (lstLoc d))))
        ∗ bigSep Finset.univ fun c : Fin 2 => bigSep Finset.univ fun i : Fin 16 => goRes m d c i) : sProp 𝕄)
    from (deal d (tblOf m d) (rowsOf m d) (W5 m d (Proc.devRef .tc main_v39))).1) $$ H3
  icases H3 with ⟨Hrest, Hgo⟩
  iapply ((K (F := F)).wp_run (D (F := F)) 𝒱 (EH := EH) (P := P m h) κ d 0)
  isplitr; · iexact Hctx
  isplitl [Hst]; · iexact Hst
  isplitl [Hgo]; · iexact Hgo
  iintro ⟨Hst, Hdn⟩
  iapply Hk
  isplitl [Hst]; · iexact Hst
  isplitr [Hr]
  · rw [show W6 m h d (Proc.devRef .tc main_v38) = tblOf m d from Function.update_of_ne (devRef_ne (by decide)) _ _,
        show W6 m h d (Proc.devRef .tc main_v37) = rowsOf m d from Function.update_of_ne (devRef_ne (by decide)) _ _,
        show W6 m h d (Proc.devRef .tc main_v39) = gathered (tblOf m d) (rowsOf m d) (h d) from Function.update_self ..]
    iapply (deal d (tblOf m d) (rowsOf m d) (gathered (tblOf m d) (rowsOf m d) (h d))).2
    isplitl [Hrest]; · iexact Hrest
    iexact Hdn
  iexact Hr

omit [FloatOps F] in
/-- The launch's unscoped buffers, as held at the launch's contents. -/
theorem launch_held (d : Dev nD) :
    (unscopedBufs d (fun b => m ((SparseCore.T d : Thread nD τ).loc b)) : sProp 𝕄) = StableHlo.held (T d : Thread nD τ) (ucRefs τ sig) (launchContents m d) := by
  have e := Pipeline.unscopedBufs_held (Ix := HIx 1) (Name := ℕ) (U := UU) (Lvl := ℕ) d (launchContents m d)
  rw [← e]

set_option backward.isDefEq.respectTransparency.types false in
/-- The program on the TensorCore, from the launch to its final buffers. -/
theorem hmain [∀ e, Nonempty (Elt F e)] (ρ : Dev nD → PrngReg) (κ : GSem nD τ sig → ℕ) (d : Dev nD) :
    iprop((K (F := F)).ctx EH (P m h) κ ∗ (K (F := F)).tcSt EH d 0 ∗ (K (F := F)).tcRes m ρ d ∗ G (F := F) d)
      ⊢ wp frame (wpE ((K (F := F)).defs (D (F := F))) 𝒱 (T d) none) Set.univ (main (F := F) d)
          fun _ => iprop((K (F := F)).tcSt EH d 1 ∗ FIN m h d ∗ (K (F := F)).tcEnd d) := by
  unfold SparseCore.Cfg.tcRes SparseCore.Cfg.tcEnd G
  rw [launch_held, bigSep_pipes, bigSep_pipes, main_eq]
  iintro ⟨#Hctx, Hst, ⟨Hb, Hm, Hts, -⟩, ⟨Hc0, Hc1⟩, Ht0, Ht1⟩
  ihave Hl := (SparseCore.Cfg.ctx_levAts κ) $$ Hctx
  icases Hl with #Hl
  iapply (StableHlo.wp_seq 𝒱 none Set.univ d (ucRefs τ sig) _ opsA (sub_of_forall opsA_sub) (fresh_of_forall opsA_fresh) (launchContents m d)) $$ [Hb Hm]
  · isplitl [Hb] <;> iassumption
  iintro ⟨Hb, Hm⟩
  rw [wp_bind]
  ihave Hst := (tcSt_out d) $$ Hst
  icases Hst with ⟨HO, Hcr⟩
  iapply (first_step m d _)
  isplitr; · iexact Hl
  isplitl [Hb]; · iexact Hb
  isplitl [Hm]; · iexact Hm
  isplitl [HO]; · iexact HO
  isplitl [Hc0]; · iexact Hc0
  isplitl [Ht0]; · iexact Ht0
  iintro ⟨Hb, Hm, HO⟩
  iapply (StableHlo.wp_seq 𝒱 none Set.univ d (ucRefs τ sig) _ opsB (sub_of_forall opsB_sub) (fresh_of_forall opsB_fresh) (W2 m d)) $$ [Hb Hm]
  · isplitl [Hb] <;> iassumption
  iintro ⟨Hb, Hm⟩
  rw [wp_bind]
  iapply (second_step m d _)
  isplitr; · iexact Hl
  isplitl [Hb]; · iexact Hb
  isplitl [Hm]; · iexact Hm
  isplitl [HO]; · iexact HO
  isplitl [Hc1]; · iexact Hc1
  isplitl [Ht1]; · iexact Ht1
  iintro ⟨Hb, Hm, HO⟩
  iapply (StableHlo.wp_seq 𝒱 none Set.univ d (ucRefs τ sig) _ opsC (sub_of_forall opsC_sub) (fresh_of_forall opsC_fresh) (W4 m d)) $$ [Hb Hm]
  · isplitl [Hb] <;> iassumption
  iintro ⟨Hb, Hm⟩
  rw [wp_bind]
  ihave Hst := (tcSt_in d) $$ [HO Hcr]
  · isplitl [HO] <;> iassumption
  iapply (third_step m h κ d _)
  isplitr; · iexact Hctx
  isplitl [Hst]; · iexact Hst
  isplitl [Hm]; · iexact Hm
  iintro ⟨Hst, Hm⟩
  rw [← bind_pure (StableHlo.seq opsD)]
  iapply (StableHlo.wp_seq 𝒱 none Set.univ d (ucRefs τ sig) _ opsD (sub_of_forall opsD_sub) (fresh_of_forall opsD_fresh) (W6 m h d)) $$ [Hb Hm]
  · isplitl [Hb] <;> iassumption
  iintro ⟨Hb, Hm⟩
  rw [wp_pure]
  imodintro
  isplitl [Hst]; · iexact Hst
  isplitl [Hm]; · iexact Hm
  isplitl [Hb] <;> iassumption

/-- A final memory holds the program's final contents in every unscoped TensorCore buffer. -/
def fq (d : Dev nD) (s' : Phys nD τ sig (Elt F)) : Prop :=
  ∀ b : Ref sig .tc, b.isScoped = false → s'.mem.mem (tcLoc d b) = W7 m h d (Proc.devRef .tc b)

theorem hfin (d : Dev nD) (s' : Phys nD τ sig (Elt F)) : iprop(FIN m h d ∗ SI s') ⊢ (⌜fq m h d s'⌝ : sProp 𝕄) := by
  unfold fq
  refine .trans ?_ pure_forall.2
  refine forall_intro fun b => ?_
  by_cases hb : b.isScoped = false
  · rw [show FIN m h d = _ from held_take d (W7 m h d) {b} (by simpa using hb), bigSep_singleton]
    iintro ⟨⟨Hb, -⟩, HSI⟩
    ihave H := (SI_pointsTo_agree (st := s') (ℓ := tcLoc d b) (I := Finset.univ) (q := fullShare) (f := W7 m h d (Proc.devRef .tc b))) $$ [HSI Hb]
    · isplitl [HSI] <;> iassumption
    icases H with %h1
    ipureintro; exact fun _ => funext fun i => h1 i (Finset.mem_univ i)
  · iintro -
    ipureintro; exact fun h' => absurd h' hb

/-! ## The program's run -/

/-- Every run of the program ends with its final contents in every unscoped TensorCore buffer, and every semaphore at zero. -/
theorem run_main [∀ e, Nonempty (Elt F e)] (ρ : Dev nD → PrngReg) :
    θ_run (Cert.KernelIdeal.defs (F := F)) (Cert.KernelIdeal.threads (F := F)) ⟨m, fun _ => 0, ρ⟩ fun r =>
      (∀ (d : Dev nD) (b : Ref sig .tc), b.isScoped = false → r.2.mem (tcLoc d b) = W7 m h d (Proc.devRef .tc b)) ∧ r.2.sem = fun _ => 0 :=
  SparseCore.Cfg.θ_run_sc_quiescent (K := K (F := F)) (D := D (F := F)) (𝒱 := 𝒱) (EH := EH) (P := P m h) (A := ∅) facts v₀
    (fun q hq => match q with | 0 => nomatch hq)
    (fun q _ => match q with | 0 => tileObl m h facts)
    (fun q _ => match q with | 0 => SparseCore.Cfg.VecSplit.of_plain (vecSplit m h))
    m ρ main (G (F := F)) (FIN m h) (u₀ (F := F)) (sep_elim_left.trans (hu₀ m h)) (hmain m h ρ) (fq m h) (hfin m h) _ (fun _ h hz => ⟨h, hz⟩)

end Main

end Cert.Mlp

end
-- ==== Proof.Words.lean ====
module

public import proofs.«01_k».proof.Proof.Common
public import proofs.«01_k».proof.Proof.Gen.KernelIdeal.Launch
public import proofs.«01_k».proof.Proof.Gen.KernelIdeal.Points
public import proofs.«01_k».proof.Proof.Gen.KernelIdeal.Regions
public import Idealize.ShloMosaic.Lib.Ring
public import Idealize.ShloMosaic.Lib.Writes
public import Idealize.ShloMosaic.Lib.ViewIndex
public import Idealize.ShloMosaic.Lib.ValueIdx
public import Idealize.ShloMosaic.Lib.VecWindow
public import proofs.«01_k».proof.Proof.HostOps
public import Idealize.ShloMosaic.Lib.Pipeline.RegionArrays
public import Idealize.ShloMosaic.Lib.Pipeline.FrameBody

@[expose] public section

noncomputable section

namespace Cert.Mlp

open Cert.KernelIdeal Cert.KernelIdeal.Gen

open Idealize.ShloMosaic
open Idealize.ShloMosaic.ValueIdx (ix1 ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)
open Idealize.ShloMosaic.StableHlo (TRef seq after launchContents tcRefs after_of_writes_sub)
open Idealize.ShloMosaic.Pipeline (ucRefs)

variable {F : FTy → Type} [FloatOps F]

local notation "𝕄" => MT nD τ sig (HIx 1) (Elt F) ℕ UU ℕ

/-! ## Division and remainder on words -/

/-- `stablehlo`'s floor remainder by a scalar, at one word. -/
def remW (d x : BitVec 32) : BitVec 32 :=
  let e := if IntOp.cmpi .eq d 0#32 = 1#1 then 1#32 else d
  let r := IntOp.remsi .host x e
  if IntOp.andi (IntOp.cmpi .ne (IntOp.cmpi .slt r 0#32) (IntOp.cmpi .slt e 0#32)) (IntOp.cmpi .ne r 0#32) = 1#1 then IntOp.addi r e else r

/-- The sign of a word. -/
def signW (x : BitVec 32) : BitVec 32 := if x = 0 then 0 else if x.msb then -1 else 1

/-- `stablehlo`'s floor division by a scalar, at one word. -/
def divW (d x : BitVec 32) : BitVec 32 :=
  let q := IntOp.divsi .host x d
  if IntOp.andi (IntOp.cmpi .ne (signW x) (signW d)) (IntOp.cmpi .ne (IntOp.remsi .host x d) 0#32) = 1#1 then IntOp.subi q 1#32 else q

theorem msb_small {x : BitVec 32} (hx : x.toNat < 1000000) : x.msb = false := by
  rw [BitVec.msb_eq_decide]; simp; omega

theorem slt_zero_small {x : BitVec 32} (hx : x.toNat < 1000000) : x.slt 0#32 = false := by
  rw [BitVec.slt_zero_eq_msb]; exact msb_small hx

theorem not_corner {x d : BitVec 32} (hd : d.toNat < 1000000) (h0 : 0 < d.toNat) : ¬ IntOp.SDivCorner x d := by
  rintro (h | ⟨-, h⟩) <;> subst h <;> revert hd h0 <;> decide

theorem remsi_small {x d : BitVec 32} (hx : x.toNat < 1000000) (hd : d.toNat < 1000000) (h0 : 0 < d.toNat) :
    IntOp.remsi .host x d = BitVec.ofNat 32 (x.toNat % d.toNat) := by
  unfold IntOp.remsi
  rw [if_neg (not_corner hd h0)]
  apply BitVec.eq_of_toNat_eq
  rw [BitVec.srem_eq, msb_small hx, msb_small hd]
  have : x.toNat % d.toNat < d.toNat := Nat.mod_lt _ h0
  simp; omega

theorem divsi_small {x d : BitVec 32} (hx : x.toNat < 1000000) (hd : d.toNat < 1000000) (h0 : 0 < d.toNat) :
    IntOp.divsi .host x d = BitVec.ofNat 32 (x.toNat / d.toNat) := by
  unfold IntOp.divsi
  rw [if_neg (not_corner hd h0)]
  apply BitVec.eq_of_toNat_eq
  rw [BitVec.sdiv_eq, msb_small hx, msb_small hd]
  have h1 : x.toNat / d.toNat ≤ x.toNat := Nat.div_le_self _ _
  have h2 : x.toNat / d.toNat < 4294967296 := by omega
  simp only [BitVec.toNat_ofNat, Nat.reducePow]
  rw [Nat.mod_eq_of_lt h2]
  exact BitVec.toNat_udiv

theorem remW_small {x d : BitVec 32} (hx : x.toNat < 1000000) (hd : d.toNat < 1000000) (h0 : 0 < d.toNat) :
    remW d x = BitVec.ofNat 32 (x.toNat % d.toNat) := by
  have hlt : x.toNat % d.toNat < d.toNat := Nat.mod_lt _ h0
  have hr : (BitVec.ofNat 32 (x.toNat % d.toNat)).toNat < 1000000 := by simp; omega
  have hd0 : (d == 0#32) = false := by
    rw [beq_eq_false_iff_ne]; rintro rfl; exact absurd h0 (by decide)
  unfold remW
  have he : (if IntOp.cmpi .eq d 0#32 = 1#1 then 1#32 else d) = d := by
    rw [if_neg]; simp only [IntOp.cmpi, hd0]; decide
  dsimp only
  rw [he, remsi_small hx hd h0, if_neg]
  unfold IntOp.cmpi
  simp only [slt_zero_small hr, slt_zero_small hd]
  unfold IntOp.andi
  cases h : (BitVec.ofNat 32 (x.toNat % d.toNat) != 0#32) <;> decide

theorem divW_small {x d : BitVec 32} (hx : x.toNat < 1000000) (hd : d.toNat < 1000000) (h0 : 0 < d.toNat) :
    divW d x = BitVec.ofNat 32 (x.toNat / d.toNat) := by
  have hd0 : ¬ d = 0 := by rintro rfl; exact absurd h0 (by decide)
  unfold divW
  dsimp only
  rw [divsi_small hx hd h0, remsi_small hx hd h0, if_neg]
  unfold signW
  rw [if_neg hd0, msb_small hx, msb_small hd]
  by_cases hx0 : x = 0
  · subst hx0
    simp [IntOp.cmpi, IntOp.andi]
  · rw [if_neg hx0]
    simp [IntOp.cmpi, IntOp.andi]

/-- The row of the packed table that holds token `x`'s values: the main rows lie eight to a row of blocks, the tail rows in place. -/
def rowW (x : BitVec 32) : BitVec 32 :=
  if IntOp.cmpi .slt x 999936#32 = 1#1 then
    IntOp.addi (IntOp.muli (IntOp.addi (IntOp.muli (divW 15872#32 x) 1984#32) (remW 1984#32 (remW 15872#32 x))) 8#32) (divW 1984#32 (remW 15872#32 x))
  else x

/-- The same on numbers. -/
def rowN (v : ℕ) : ℕ :=
  if v < 999936 then (v / 15872 * 1984 + v % 15872 % 1984) * 8 + v % 15872 / 1984 else v

theorem rowN_lt {v : ℕ} (h : v < 1000000) : rowN v < 1000000 := by
  unfold rowN; split <;> omega

theorem rowW_small {x : BitVec 32} (hx : x.toNat < 1000000) : rowW x = BitVec.ofNat 32 (rowN x.toNat) := by
  unfold rowW rowN
  have h1 : (15872#32).toNat < 1000000 := by decide
  have h2 : (1984#32).toNat < 1000000 := by decide
  have hr := remW_small hx h1 (by decide)
  have hrn : (remW 15872#32 x).toNat = x.toNat % 15872 := by rw [hr]; simp; omega
  have hc : IntOp.cmpi .slt x 999936#32 = 1#1 ↔ x.toNat < 999936 := by
    have e : x.toInt = x.toNat := by rw [BitVec.toInt_eq_toNat_cond]; split <;> omega
    have e' : (999936#32).toInt = 999936 := by decide
    simp only [IntOp.cmpi, BitVec.slt_eq_decide, e, e']
    by_cases h : x.toNat < 999936
    · have : ((x.toNat : ℤ) < 999936) := by omega
      simp [h, this]
    · have : ¬ ((x.toNat : ℤ) < 999936) := by omega
      simp [h, this]
  by_cases h : x.toNat < 999936
  · rw [if_pos (hc.2 h), if_pos h, divW_small hx h1 (by decide), remW_small (by omega) h2 (by decide), divW_small (by omega) h2 (by decide), hrn]
    apply BitVec.eq_of_toNat_eq
    simp [IntOp.addi, IntOp.muli]
  · rw [if_neg (fun e => h (hc.1 e)), if_neg h]; simp

theorem rowW_lt {x : BitVec 32} (hx : x.toNat < 1000000) : (rowW x).toNat < 1000000 := by
  rw [rowW_small hx]; have := rowN_lt hx; simp; omega

/-! ## The program's division pieces, read -/

theorem after_append (l₁ l₂ : List (HloOp τ sig (Elt F))) (V : Valuation τ sig (Elt F)) :
    after (l₁ ++ l₂) V = after l₂ (after l₁ V) := by
  induction l₁ generalizing V with
  | nil => rfl
  | cons op l ih => exact ih _

section Reads

variable (V : Valuation τ sig (Elt F))

set_option maxHeartbeats 800000 in
/-- The first remainder. -/
theorem rem1_read (h : V (Proc.devRef .tc main_c_3) = constantI S_ 32 15872#32) :
    after rem1 V (Proc.devRef .tc main_v25) = (fun n => remW 15872#32 (V (Proc.devRef .tc main_v24) n) : IVec S819200 32) := by
  simp only [rem1, TRef.binary, TRef.nullary, TRef.ternary, TRef.unary, TRef.toBuf, TRef.ofBuf, cast_eq]
  after_results_simp
  rw [h]
  rfl

set_option maxHeartbeats 800000 in
/-- The first quotient. -/
theorem div1_read (h : V (Proc.devRef .tc main_c_5) = constantI S_ 32 15872#32) :
    after div1 V (Proc.devRef .tc main_v28) = (fun n => divW 15872#32 (V (Proc.devRef .tc main_v24) n) : IVec S819200 32) := by
  simp only [div1, TRef.binary, TRef.nullary, TRef.ternary, TRef.unary, TRef.toBuf, TRef.ofBuf, cast_eq]
  after_results_simp
  rw [h]
  rfl

set_option maxHeartbeats 800000 in
/-- The second remainder. -/
theorem rem2_read (h : V (Proc.devRef .tc main_c_7) = constantI S_ 32 1984#32) :
    after rem2 V (Proc.devRef .tc main_v31) = (fun n => remW 1984#32 (V (Proc.devRef .tc main_v25) n) : IVec S819200 32) := by
  simp only [rem2, TRef.binary, TRef.nullary, TRef.ternary, TRef.unary, TRef.toBuf, TRef.ofBuf, cast_eq]
  after_results_simp
  rw [h]
  rfl

set_option maxHeartbeats 800000 in
/-- The second quotient. -/
theorem div2_read (h : V (Proc.devRef .tc main_c_9) = constantI S_ 32 1984#32) :
    after div2 V (Proc.devRef .tc main_v35) = (fun n => divW 1984#32 (V (Proc.devRef .tc main_v25) n) : IVec S819200 32) := by
  simp only [div2, TRef.binary, TRef.nullary, TRef.ternary, TRef.unary, TRef.toBuf, TRef.ofBuf, cast_eq]
  after_results_simp
  rw [h]
  rfl

set_option maxHeartbeats 800000 in
/-- The tokens in one line. -/
theorem opsC0_v24 : after opsC0 V (Proc.devRef .tc main_v24) = (shapeCast S819200 (V (Proc.devRef .tc main_arg0) : IVec S4096x200 32) shapeCasts_S4096x200_S819200 : IVec S819200 32) := by
  simp only [opsC0, TRef.binary, TRef.nullary, TRef.ternary, TRef.unary, TRef.toBuf, TRef.ofBuf, cast_eq]
  after_results_simp
  first | done | rfl

set_option maxHeartbeats 800000 in
/-- The first divisor. -/
theorem opsC0_c_3 : after opsC0 V (Proc.devRef .tc main_c_3) = constantI S_ 32 15872#32 := by
  simp only [opsC0, TRef.binary, TRef.nullary, TRef.ternary, TRef.unary, TRef.toBuf, TRef.ofBuf, cast_eq]
  after_results_simp
  first | done | rfl

set_option maxHeartbeats 800000 in
/-- Which tokens lie in the main rows. -/
theorem opsC1_v27 : after opsC1 V (Proc.devRef .tc main_v27) = (fun n => IntOp.cmpi .slt (V (Proc.devRef .tc main_v24) n) 999936#32 : IVec S819200 1) := by
  simp only [opsC1, TRef.binary, TRef.nullary, TRef.ternary, TRef.unary, TRef.toBuf, TRef.ofBuf, cast_eq]
  after_results_simp
  first | done | rfl

set_option maxHeartbeats 800000 in
/-- The second divisor. -/
theorem opsC1_c_5 : after opsC1 V (Proc.devRef .tc main_c_5) = constantI S_ 32 15872#32 := by
  simp only [opsC1, TRef.binary, TRef.nullary, TRef.ternary, TRef.unary, TRef.toBuf, TRef.ofBuf, cast_eq]
  after_results_simp
  first | done | rfl

set_option maxHeartbeats 800000 in
/-- The quotient scaled. -/
theorem opsC2_v30 : after opsC2 V (Proc.devRef .tc main_v30) = (fun n => IntOp.muli (V (Proc.devRef .tc main_v28) n) 1984#32 : IVec S819200 32) := by
  simp only [opsC2, TRef.binary, TRef.nullary, TRef.ternary, TRef.unary, TRef.toBuf, TRef.ofBuf, cast_eq]
  after_results_simp
  first | done | rfl

set_option maxHeartbeats 800000 in
/-- The third divisor. -/
theorem opsC2_c_7 : after opsC2 V (Proc.devRef .tc main_c_7) = constantI S_ 32 1984#32 := by
  simp only [opsC2, TRef.binary, TRef.nullary, TRef.ternary, TRef.unary, TRef.toBuf, TRef.ofBuf, cast_eq]
  after_results_simp
  first | done | rfl

set_option maxHeartbeats 800000 in
/-- The packed row, eight to a line. -/
theorem opsC3_v34 : after opsC3 V (Proc.devRef .tc main_v34) = (fun n => IntOp.muli (IntOp.addi (V (Proc.devRef .tc main_v30) n) (V (Proc.devRef .tc main_v31) n)) 8#32 : IVec S819200 32) := by
  simp only [opsC3, TRef.binary, TRef.nullary, TRef.ternary, TRef.unary, TRef.toBuf, TRef.ofBuf, cast_eq]
  after_results_simp
  first | done | rfl

set_option maxHeartbeats 800000 in
/-- The fourth divisor. -/
theorem opsC3_c_9 : after opsC3 V (Proc.devRef .tc main_c_9) = constantI S_ 32 1984#32 := by
  simp only [opsC3, TRef.binary, TRef.nullary, TRef.ternary, TRef.unary, TRef.toBuf, TRef.ofBuf, cast_eq]
  after_results_simp
  first | done | rfl

set_option maxHeartbeats 800000 in
/-- The list of rows. -/
theorem opsC4_v37 : after opsC4 V (Proc.devRef .tc main_v37) = (fun n => if (show BitVec 1 from (V (Proc.devRef .tc main_v27) : IVec S819200 1) n) = 1#1 then IntOp.addi (V (Proc.devRef .tc main_v34) n) (V (Proc.devRef .tc main_v35) n) else V (Proc.devRef .tc main_v24) n : IVec S819200 32) := by
  simp only [opsC4, TRef.binary, TRef.nullary, TRef.ternary, TRef.unary, TRef.toBuf, TRef.ofBuf, cast_eq]
  after_results_simp
  first | done | rfl

set_option maxHeartbeats 800000 in
/-- The packed table, sixteen columns wide. -/
theorem opsC4_v38 : after opsC4 V (Proc.devRef .tc main_v38) = (shapeCast S1000000x16 (V (Proc.devRef .tc main_v23) : FVec F S125000x128 .f32) shapeCasts_S125000x128_S1000000x16 : FVec F S1000000x16 .f32) := by
  simp only [opsC4, TRef.binary, TRef.nullary, TRef.ternary, TRef.unary, TRef.toBuf, TRef.ofBuf, cast_eq]
  after_results_simp
  first | done | rfl

/-! What each piece leaves alone. -/

theorem rem1_keep_v24 : after rem1 V (Proc.devRef .tc main_v24) = V (Proc.devRef .tc main_v24) := after_of_writes_sub rem1 V rem1_writes (by decide)
theorem opsC1_keep_v24 : after opsC1 V (Proc.devRef .tc main_v24) = V (Proc.devRef .tc main_v24) := after_of_writes_sub opsC1 V opsC1_writes (by decide)
theorem div1_keep_v24 : after div1 V (Proc.devRef .tc main_v24) = V (Proc.devRef .tc main_v24) := after_of_writes_sub div1 V div1_writes (by decide)
theorem opsC2_keep_v24 : after opsC2 V (Proc.devRef .tc main_v24) = V (Proc.devRef .tc main_v24) := after_of_writes_sub opsC2 V opsC2_writes (by decide)
theorem rem2_keep_v24 : after rem2 V (Proc.devRef .tc main_v24) = V (Proc.devRef .tc main_v24) := after_of_writes_sub rem2 V rem2_writes (by decide)
theorem opsC3_keep_v24 : after opsC3 V (Proc.devRef .tc main_v24) = V (Proc.devRef .tc main_v24) := after_of_writes_sub opsC3 V opsC3_writes (by decide)
theorem div2_keep_v24 : after div2 V (Proc.devRef .tc main_v24) = V (Proc.devRef .tc main_v24) := after_of_writes_sub div2 V div2_writes (by decide)
theorem opsC1_keep_v25 : after opsC1 V (Proc.devRef .tc main_v25) = V (Proc.devRef .tc main_v25) := after_of_writes_sub opsC1 V opsC1_writes (by decide)
theorem div1_keep_v25 : after div1 V (Proc.devRef .tc main_v25) = V (Proc.devRef .tc main_v25) := after_of_writes_sub div1 V div1_writes (by decide)
theorem opsC2_keep_v25 : after opsC2 V (Proc.devRef .tc main_v25) = V (Proc.devRef .tc main_v25) := after_of_writes_sub opsC2 V opsC2_writes (by decide)
theorem rem2_keep_v25 : after rem2 V (Proc.devRef .tc main_v25) = V (Proc.devRef .tc main_v25) := after_of_writes_sub rem2 V rem2_writes (by decide)
theorem opsC3_keep_v25 : after opsC3 V (Proc.devRef .tc main_v25) = V (Proc.devRef .tc main_v25) := after_of_writes_sub opsC3 V opsC3_writes (by decide)
theorem div2_keep_v25 : after div2 V (Proc.devRef .tc main_v25) = V (Proc.devRef .tc main_v25) := after_of_writes_sub div2 V div2_writes (by decide)
theorem div1_keep_v27 : after div1 V (Proc.devRef .tc main_v27) = V (Proc.devRef .tc main_v27) := after_of_writes_sub div1 V div1_writes (by decide)
theorem opsC2_keep_v27 : after opsC2 V (Proc.devRef .tc main_v27) = V (Proc.devRef .tc main_v27) := after_of_writes_sub opsC2 V opsC2_writes (by decide)
theorem rem2_keep_v27 : after rem2 V (Proc.devRef .tc main_v27) = V (Proc.devRef .tc main_v27) := after_of_writes_sub rem2 V rem2_writes (by decide)
theorem opsC3_keep_v27 : after opsC3 V (Proc.devRef .tc main_v27) = V (Proc.devRef .tc main_v27) := after_of_writes_sub opsC3 V opsC3_writes (by decide)
theorem div2_keep_v27 : after div2 V (Proc.devRef .tc main_v27) = V (Proc.devRef .tc main_v27) := after_of_writes_sub div2 V div2_writes (by decide)
theorem rem2_keep_v30 : after rem2 V (Proc.devRef .tc main_v30) = V (Proc.devRef .tc main_v30) := after_of_writes_sub rem2 V rem2_writes (by decide)
theorem div2_keep_v34 : after div2 V (Proc.devRef .tc main_v34) = V (Proc.devRef .tc main_v34) := after_of_writes_sub div2 V div2_writes (by decide)
theorem opsC0_keep_v23 : after opsC0 V (Proc.devRef .tc main_v23) = V (Proc.devRef .tc main_v23) := after_of_writes_sub opsC0 V opsC0_writes (by decide)
theorem rem1_keep_v23 : after rem1 V (Proc.devRef .tc main_v23) = V (Proc.devRef .tc main_v23) := after_of_writes_sub rem1 V rem1_writes (by decide)
theorem opsC1_keep_v23 : after opsC1 V (Proc.devRef .tc main_v23) = V (Proc.devRef .tc main_v23) := after_of_writes_sub opsC1 V opsC1_writes (by decide)
theorem div1_keep_v23 : after div1 V (Proc.devRef .tc main_v23) = V (Proc.devRef .tc main_v23) := after_of_writes_sub div1 V div1_writes (by decide)
theorem opsC2_keep_v23 : after opsC2 V (Proc.devRef .tc main_v23) = V (Proc.devRef .tc main_v23) := after_of_writes_sub opsC2 V opsC2_writes (by decide)
theorem rem2_keep_v23 : after rem2 V (Proc.devRef .tc main_v23) = V (Proc.devRef .tc main_v23) := after_of_writes_sub rem2 V rem2_writes (by decide)
theorem opsC3_keep_v23 : after opsC3 V (Proc.devRef .tc main_v23) = V (Proc.devRef .tc main_v23) := after_of_writes_sub opsC3 V opsC3_writes (by decide)
theorem div2_keep_v23 : after div2 V (Proc.devRef .tc main_v23) = V (Proc.devRef .tc main_v23) := after_of_writes_sub div2 V div2_writes (by decide)

set_option maxHeartbeats 800000 in
/-- The list of rows after this part: the row of each token. -/
theorem opsC_v37 : after opsC V (Proc.devRef .tc main_v37)
    = (fun n => rowW (shapeCast S819200 (V (Proc.devRef .tc main_arg0) : IVec S4096x200 32) shapeCasts_S4096x200_S819200 n) : IVec S819200 32) := by
  rw [opsC, after_append, after_append, after_append, after_append, after_append, after_append, after_append, after_append]
  rw [opsC4_v37, div2_read _ (opsC3_c_9 _), div2_keep_v27, div2_keep_v34, div2_keep_v24, opsC3_keep_v27, opsC3_v34, opsC3_keep_v25, opsC3_keep_v24,
    rem2_read _ (opsC2_c_7 _), rem2_keep_v27, rem2_keep_v30, rem2_keep_v25, rem2_keep_v24, opsC2_keep_v27, opsC2_v30, opsC2_keep_v25, opsC2_keep_v24,
    div1_read _ (opsC1_c_5 _), div1_keep_v27, div1_keep_v25, div1_keep_v24, opsC1_v27, opsC1_keep_v25, opsC1_keep_v24,
    rem1_read _ (opsC0_c_3 _), rem1_keep_v24, opsC0_v24]
  rfl

/-- The packed table after this part. -/
theorem opsC_v38 : after opsC V (Proc.devRef .tc main_v38)
    = (shapeCast S1000000x16 (V (Proc.devRef .tc main_v23) : FVec F S125000x128 .f32) shapeCasts_S125000x128_S1000000x16 : FVec F S1000000x16 .f32) := by
  rw [opsC, after_append, after_append, after_append, after_append, after_append, after_append, after_append, after_append]
  rw [opsC4_v38, div2_keep_v23, opsC3_keep_v23, rem2_keep_v23, opsC2_keep_v23, div1_keep_v23, opsC1_keep_v23, rem1_keep_v23, opsC0_keep_v23]

end Reads

end Cert.Mlp

end
-- ==== Proof.Domain.lean ====
module

public import proofs.«01_k».proof.Proof.Common
public import proofs.«01_k».proof.Proof.Gen.KernelIdeal.Launch
public import proofs.«01_k».proof.Proof.Gen.KernelIdeal.Points
public import proofs.«01_k».proof.Proof.Gen.KernelIdeal.Regions
public import Idealize.ShloMosaic.Lib.Ring
public import Idealize.ShloMosaic.Lib.Writes
public import Idealize.ShloMosaic.Lib.ViewIndex
public import Idealize.ShloMosaic.Lib.ValueIdx
public import Idealize.ShloMosaic.Lib.VecWindow
public import proofs.«01_k».proof.Proof.Run
public import proofs.«01_k».proof.Proof.Words
public import proofs.«01_k».proof.Defs
public import proofs.«01_k».proof.Proof.Gen.Kernel
public import proofs.«01_k».proof.Proof.Gen.Pre_in_range
public import proofs.«01_k».proof.Proof.Gen.Pre_finite
public import Idealize.ShloMosaic.Lib.ReduceAll
public import Idealize.ShloMosaic.Lib.Pipeline.RegionArrays
public import Idealize.ShloMosaic.Lib.Pipeline.FrameBody

@[expose] public section

noncomputable section

namespace Cert.Mlp

open Cert.KernelIdeal Cert.KernelIdeal.Gen

open Idealize.ShloMosaic
open Idealize.ShloMosaic.ValueIdx (ix1 ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)
open Idealize.ShloMosaic.StableHlo (seq after launchContents tcRefs after_of_writes_sub)
open Idealize.ShloMosaic.Pipeline (ucRefs)

variable {F : FTy → Type} [FloatOps F]

local notation "𝕄" => MT nD τ sig (HIx 1) (Elt F) ℕ UU ℕ

/-! ## What the precondition says -/

/-- One word the precondition's two comparisons accept is a row of the table. -/
theorem word_in_rows {v : BitVec 32} (h1 : IntOp.cmpi .sge v 0#32 = 1#1) (h2 : IntOp.cmpi .slt v 1000000#32 = 1#1) : v.toNat < 1000000 := by
  rw [IntOp.cmpi_sge] at h1
  rw [IntOp.cmpi_slt] at h2
  have e0 : (0#32 : BitVec 32).toInt = 0 := by decide
  have e1 : (1000000#32 : BitVec 32).toInt = 1000000 := by decide
  rw [e0, BitVec.toInt_eq_toNat_cond] at h1
  rw [e1, BitVec.toInt_eq_toNat_cond] at h2
  split at h1 <;> omega

/-- An extended real whose magnitude is below the largest is a real. -/
theorem real_of_abs {x : EReal} (h : max x (-x) < ⊤) : ∃ r : ℝ, x = r := by
  induction x with
  | bot => simp at h
  | top => simp at h
  | coe r => exact ⟨r, rfl⟩

/-- The word the precondition compares magnitudes with names the largest extended real. -/
theorem inf_word : (FloatOps.ofBits .f32 0x7F800000#32 : Ideal .f32) = (⊤ : EReal) := by
  show Ideal.ofBits .f32 0x7F800000#32 = ⊤
  simp [Ideal.ofBits, Ideal.ieee]

section Pre

variable (a0 : IVec S4096x200 32) (a1 : FVec F S1000000x64 .f32) (a2 : FVec F S64x64 .f32) (a3 : FVec F S64 .f32) (a4 : FVec F S6x64 .f32) (a5 : FVec F S6 .f32)

/-- What the precondition on the tokens compares: every token against the table's rows. -/
theorem pre_tokens (h : Cert.Pre_in_range.fn (F := F) a0 a1 a2 a3 a4 a5 = fun _ => 1#1) : ∀ i, (a0 i).toNat < 1000000 := by
  have e := congrFun h (fun i => i.elim0)
  simp only [Cert.Pre_in_range.fn, andi, IntOp.andi_eq_one] at e
  exact fun i => word_in_rows (Host.reduce_andi_all _ _ _ _ _ e.1 i) (Host.reduce_andi_all _ _ _ _ _ e.2 i)

/-- What the value claim's precondition compares: every token against the table's rows, and the magnitudes of the table's and the two
    matrices' entries against infinity. -/
theorem pre_parts (h : Cert.Pre_finite.fn (F := F) a0 a1 a2 a3 a4 a5 = fun _ => 1#1) :
    (∀ i, (a0 i).toNat < 1000000)
    ∧ (∀ i, FloatOps.cmpf .olt (FloatOps.hostAbsf (a1 i)) (FloatOps.ofBits .f32 0x7F800000#32) = 1#1)
    ∧ (∀ i, FloatOps.cmpf .olt (FloatOps.hostAbsf (a2 i)) (FloatOps.ofBits .f32 0x7F800000#32) = 1#1)
    ∧ (∀ i, FloatOps.cmpf .olt (FloatOps.hostAbsf (a4 i)) (FloatOps.ofBits .f32 0x7F800000#32) = 1#1) := by
  have e := congrFun h (fun i => i.elim0)
  simp only [Cert.Pre_finite.fn, Cert.Pre_finite.fn_part1, andi, IntOp.andi_eq_one] at e
  obtain ⟨⟨⟨⟨h0, h0'⟩, h1⟩, h2⟩, h4⟩ := e
  exact ⟨fun i => word_in_rows (Host.reduce_andi_all _ _ _ _ _ h0 i) (Host.reduce_andi_all _ _ _ _ _ h0' i),
    fun i => Host.reduce_andi_all _ _ _ _ _ h1 i, fun i => Host.reduce_andi_all _ _ _ _ _ h2 i, fun i => Host.reduce_andi_all _ _ _ _ _ h4 i⟩

end Pre

/-! ## What the program leaves alone -/

section Keep

variable (m : (ℓ : Loc nD τ sig) → Buf (Elt F) ℓ) (h : RowsOk m)

theorem opsC_keep (V : Valuation τ sig (Elt F)) {b : Ref sig .tc}
    (hb : b ∉ opsC0_w ++ rem1_w ++ opsC1_w ++ div1_w ++ opsC2_w ++ rem2_w ++ opsC3_w ++ div2_w ++ opsC4_w) :
    after opsC V (Proc.devRef .tc b) = V (Proc.devRef .tc b) := by
  simp only [List.mem_append, not_or] at hb
  obtain ⟨⟨⟨⟨⟨⟨⟨⟨h0, h1⟩, h2⟩, h3⟩, h4⟩, h5⟩, h6⟩, h7⟩, h8⟩ := hb
  rw [opsC, after_append, after_append, after_append, after_append, after_append, after_append, after_append, after_append,
    after_of_writes_sub _ _ opsC4_writes h8, after_of_writes_sub _ _ div2_writes h7, after_of_writes_sub _ _ opsC3_writes h6,
    after_of_writes_sub _ _ rem2_writes h5, after_of_writes_sub _ _ opsC2_writes h4, after_of_writes_sub _ _ div1_writes h3,
    after_of_writes_sub _ _ opsC1_writes h2, after_of_writes_sub _ _ rem1_writes h1, after_of_writes_sub _ _ opsC0_writes h0]

/-- A buffer the program writes nowhere before the gather's list is made. -/
theorem W4_keep (d : Dev nD) {b : Ref sig .tc} (hA : b ∉ opsA_w) (hB : b ∉ opsB_w) (h1 : b ≠ main_v12) (h2 : b ≠ main_v23) :
    W4 m d (Proc.devRef .tc b) = m (tcLoc d b) := by
  unfold W4 W3 W2 W1
  rw [Function.update_of_ne (devRef_ne h2), after_of_writes_sub _ _ opsB_writes hB, Function.update_of_ne (devRef_ne h1), after_of_writes_sub _ _ opsA_writes hA]

/-- A buffer the program writes nowhere ends as it began. -/
theorem W7_keep (d : Dev nD) {b : Ref sig .tc} (hA : b ∉ opsA_w) (hB : b ∉ opsB_w) (h1 : b ≠ main_v12) (h2 : b ≠ main_v23)
    (hC : b ∉ opsC0_w ++ rem1_w ++ opsC1_w ++ div1_w ++ opsC2_w ++ rem2_w ++ opsC3_w ++ div2_w ++ opsC4_w) (h3 : b ≠ main_v39) (hD : b ∉ opsD_w) :
    W7 m h d (Proc.devRef .tc b) = m (tcLoc d b) := by
  unfold W7 W6 W5
  rw [after_of_writes_sub _ _ opsD_writes hD, Function.update_of_ne (devRef_ne h3), opsC_keep _ hC, W4_keep m d hA hB h1 h2]

theorem W7_arg0 (d : Dev nD) : W7 m h d (Proc.devRef .tc main_arg0) = m (tcLoc d main_arg0) :=
  W7_keep m h d (by decide) (by decide) (by decide) (by decide) (by decide) (by decide) (by decide)
theorem W7_arg1 (d : Dev nD) : W7 m h d (Proc.devRef .tc main_arg1) = m (tcLoc d main_arg1) :=
  W7_keep m h d (by decide) (by decide) (by decide) (by decide) (by decide) (by decide) (by decide)
theorem W7_arg2 (d : Dev nD) : W7 m h d (Proc.devRef .tc main_arg2) = m (tcLoc d main_arg2) :=
  W7_keep m h d (by decide) (by decide) (by decide) (by decide) (by decide) (by decide) (by decide)
theorem W7_arg3 (d : Dev nD) : W7 m h d (Proc.devRef .tc main_arg3) = m (tcLoc d main_arg3) :=
  W7_keep m h d (by decide) (by decide) (by decide) (by decide) (by decide) (by decide) (by decide)
theorem W7_arg4 (d : Dev nD) : W7 m h d (Proc.devRef .tc main_arg4) = m (tcLoc d main_arg4) :=
  W7_keep m h d (by decide) (by decide) (by decide) (by decide) (by decide) (by decide) (by decide)
theorem W7_arg5 (d : Dev nD) : W7 m h d (Proc.devRef .tc main_arg5) = m (tcLoc d main_arg5) :=
  W7_keep m h d (by decide) (by decide) (by decide) (by decide) (by decide) (by decide) (by decide)

/-- The gather's list: the row of each token. -/
theorem rowsOf_eq (d : Dev nD) : rowsOf m d
    = (fun n => rowW (shapeCast S819200 (m (tcLoc d main_arg0) : IVec S4096x200 32) shapeCasts_S4096x200_S819200 n) : IVec S819200 32) := by
  unfold rowsOf W5
  rw [opsC_v37, W4_keep m d (by decide) (by decide) (by decide) (by decide)]

/-- With every token a row of the table, every word of the gather's list is one of the packed table. -/
theorem rowsOk (h0 : ∀ (d : Dev nD) (i : S4096x200.Idx), ((m (tcLoc d main_arg0) : IVec S4096x200 32) i).toNat < 1000000) : RowsOk m := by
  intro d n
  rw [rowsOf_eq]
  exact rowW_lt (h0 d _)

end Keep

/-! ## The frames -/

/-- The program's run keeps its arguments, on either reading of its floats. -/
theorem frame_run [∀ e, Nonempty (Elt F e)] (m : (ℓ : Loc nD τ sig) → Buf (Elt F) ℓ) (ρ : Dev nD → PrngReg) (h : RowsOk m) :
    θ_run (Cert.KernelIdeal.defs (F := F)) (Cert.KernelIdeal.threads (F := F)) ⟨m, fun _ => 0, ρ⟩ fun r =>
      (∀ c : Dev nD, r.2.mem (tcLoc c main_v41) = W7 m h c (Proc.devRef .tc main_v41)
        ∧ r.2.mem (tcLoc c main_arg0) = m (tcLoc c main_arg0) ∧ r.2.mem (tcLoc c main_arg1) = m (tcLoc c main_arg1)
        ∧ r.2.mem (tcLoc c main_arg2) = m (tcLoc c main_arg2) ∧ r.2.mem (tcLoc c main_arg3) = m (tcLoc c main_arg3)
        ∧ r.2.mem (tcLoc c main_arg4) = m (tcLoc c main_arg4) ∧ r.2.mem (tcLoc c main_arg5) = m (tcLoc c main_arg5))
      ∧ r.2.sem = fun _ => 0 :=
  (θ_run Cert.KernelIdeal.defs _ _).mono (fun r hr => ⟨fun c => ⟨hr.1 c main_v41 rfl, (hr.1 c main_arg0 rfl).trans (W7_arg0 m h c),
    (hr.1 c main_arg1 rfl).trans (W7_arg1 m h c), (hr.1 c main_arg2 rfl).trans (W7_arg2 m h c), (hr.1 c main_arg3 rfl).trans (W7_arg3 m h c),
    (hr.1 c main_arg4 rfl).trans (W7_arg4 m h c), (hr.1 c main_arg5 rfl).trans (W7_arg5 m h c)⟩, hr.2⟩) (run_main m h ρ)

/-- The idealized program runs and keeps its arguments. -/
theorem frame_ideal : Cert.quiescent_KernelIdeal := fun m ρ hp =>
  (θ_run Cert.KernelIdeal.defs _ _).mono (fun _ h => ⟨fun c => (h.1 c).2, h.2⟩)
    (frame_run (F := Ideal) m ρ (rowsOk m fun d => pre_tokens _ _ _ _ _ _ (hp d)))

/-- The same, from the value claim's precondition. -/
theorem frame_ideal_finite : Cert.quiescent_KernelIdeal_pre_finite := fun m ρ hp =>
  (θ_run Cert.KernelIdeal.defs _ _).mono (fun _ h => ⟨fun c => (h.1 c).2, h.2⟩)
    (frame_run (F := Ideal) m ρ (rowsOk m fun d => (pre_parts _ _ _ _ _ _ (hp d)).1))

end Cert.Mlp

end
-- ==== Proof.Frames.lean ====
module

public import proofs.«01_k».proof.Proof.Domain

@[expose] public section

noncomputable section

namespace Cert.Mlp

open Idealize.ShloMosaic Idealize.SL.Sem

/-! ## The program and its reading at exact arithmetic have one text -/

theorem same_mlp : Cert.Kernel.cc0__mlp_body (F := Bits) = Cert.KernelIdeal.cc0__mlp_body (F := Bits) := by rfl
theorem same_tail : Cert.Kernel.cc1__tail_body (F := Bits) = Cert.KernelIdeal.cc1__tail_body (F := Bits) := by rfl
theorem same_gather : Cert.Kernel.cc2__gather_body (F := Bits) = Cert.KernelIdeal.cc2__gather_body (F := Bits) := by rfl

/-- The two programs have one table of kernel bodies. -/
theorem same_defs₀ : Cert.Kernel.defs₀ (F := Bits) = Cert.KernelIdeal.defs₀ (F := Bits) := by
  funext p l a
  match p, l, a with
  | .tc, 0, a => rfl
  | .tc, 1, a => rfl
  | .tc, 2, a => rfl
  | .scVector c s, 0, a => rfl
  | .scVector c s, 1, a => rfl
  | .scVector c s, 2, a => rfl
  | .scScalar c, 0, a => rfl
  | .scScalar c, 1, a => rfl
  | .scScalar c, 2, a => rfl

/-- The two programs have one thread table. -/
theorem same_threads : Cert.Kernel.threads (F := Bits) = Cert.KernelIdeal.threads (F := Bits) := by rfl

/-- The two programs have one table of bodies. -/
theorem same_defs : Cert.Kernel.defs (F := Bits) = Cert.KernelIdeal.defs (F := Bits) :=
  congrArg (fun D₀ => (Cert.KernelIdeal.sc (F := Bits)).defs (Pipeline.defs Cert.KernelIdeal.pcfgs D₀)) same_defs₀

/-- The program runs, and keeps its arguments. -/
theorem frame_bits : Cert.quiescent_Kernel := by
  intro m ρ hp
  have h := frame_run (F := Bits) m ρ (rowsOk m fun d => pre_tokens _ _ _ _ _ _ (hp d))
  rw [← same_defs, ← same_threads] at h
  exact (θ_run (Cert.Kernel.defs (F := Bits)) (Cert.Kernel.threads (F := Bits)) ⟨m, fun _ => 0, ρ⟩).mono (fun _ h => ⟨fun c => (h.1 c).2, h.2⟩) h

end Cert.Mlp

end
-- ==== Proof.RefValue.lean ====
module

public import proofs.«01_k».proof.Proof.Gen.ReferenceIdeal.Run
public import Idealize.ShloMosaic.Lib.Pointwise
public import Idealize.ShloMosaic.Lib.ReduceAll
public import Idealize.ShloMosaic.Lib.Routing.OpsSet

@[expose] public section

noncomputable section

namespace Cert.Mlp.Ref

open Cert.ReferenceIdeal Cert.ReferenceIdeal.Gen Idealize.ShloMosaic

/-! ## The reference's result, entry by entry -/

section Terms

variable {F : FTy → Type} [FloatOps F] (a0 : IVec S4096x200 32) (a1 : FVec F S1000000x64 .f32) (a2 : FVec F S64x64 .f32) (a3 : FVec F S64 .f32)
  (a4 : FVec F S6x64 .f32) (a5 : FVec F S6 .f32)

/-- The tokens, a negative one counted from the table's end. -/
def tok : IVec S4096x200 32 :=
  select (cmpi .slt a0 (broadcastInDim S4096x200 ![] bcast_S_S4096x200 (constantI S_ 32 0#32)))
    (addi a0 (broadcastInDim S4096x200 ![] bcast_S_S4096x200 (constantI S_ 32 1000000#32))) a0

/-- The bit telling a token in range. -/
def good : IVec S4096x200 1 :=
  Host.reduce IntOp.andi
    (andi (cmpi .sge (broadcastInDim S4096x200x1 ![0, 1] bcast_S4096x200_S4096x200x1_0_1 (tok a0)) (broadcastInDim S4096x200x1 ![] bcast_S_S4096x200x1 (constantI S_ 32 0#32)))
      (cmpi .sle (broadcastInDim S4096x200x1 ![0, 1] bcast_S4096x200_S4096x200x1_0_1 (tok a0))
        (broadcastInDim S4096x200x1 ![0, 1, 2] bcast_S1x1x1_S4096x200x1_0_1_2 (broadcastInDim S1x1x1 ![2] bcast_S1_S1x1x1_2 (constantI S1 32 999999#32)))))
    (constantI S_ 1 1#1) reducesTo_S4096x200x1_S4096x200_d2 h_S_

/-- The table's rows at the tokens. -/
def emb : FVec F S4096x200x64 .f32 :=
  select (broadcastInDim S4096x200x64 ![0, 1] bcast_S4096x200_S4096x200x64_0_1 (good a0))
    (Host.gather gather_S1000000x64_S4096x200x1_S4096x200x64_2_0_n_n_0_2_164 a1 (broadcastInDim S4096x200x1 ![0, 1] bcast_S4096x200_S4096x200x1_0_1 (tok a0)))
    (broadcastInDim S4096x200x64 ![] bcast_S_S4096x200x64 (constant S_ .f32 0x7FC00000#32))

/-- The two layers, before the last function. -/
def pre (e : FVec F S4096x200x64 .f32) : FVec F S4096x200x6 .f32 :=
  addf (Host.dotGeneral dot_S4096x200x64_S64x6_S4096x200x6_2_0_01_1_n_n none
      (addf (Host.dotGeneral dot_S4096x200x64_S64x64_S4096x200x64_2_0_01_1_n_n none e (transpose S64x64 [1, 0] a2 transposes_S64x64_S64x64_1_0))
        (broadcastInDim S4096x200x64 ![0, 1, 2] bcast_S1x1x64_S4096x200x64_0_1_2 (broadcastInDim S1x1x64 ![2] bcast_S64_S1x1x64_2 a3)))
      (transpose S64x6 [1, 0] a4 transposes_S6x64_S64x6_1_0))
    (broadcastInDim S4096x200x6 ![0, 1, 2] bcast_S1x1x6_S4096x200x6_0_1_2 (broadcastInDim S1x1x6 ![2] bcast_S6_S1x1x6_2 a5))

/-- The last function: its argument where positive, the exponential less one elsewhere. -/
def last (p : FVec F S4096x200x6 .f32) : FVec F S4096x200x6 .f32 :=
  select (cmpf .ogt p (broadcastInDim S4096x200x6 ![] bcast_S_S4096x200x6 (constant S_ .f32 0x00000000#32))) p
    (mulf (broadcastInDim S4096x200x6 ![] bcast_S_S4096x200x6 (constant S_ .f32 0x3F800000#32))
      (Host.expm1 (select (cmpf .ogt p (broadcastInDim S4096x200x6 ![] bcast_S_S4096x200x6 (constant S_ .f32 0x00000000#32)))
        (broadcastInDim S4096x200x6 ![] bcast_S_S4096x200x6 (id (constant S_ .f32 0x00000000#32))) p)))

/-- The reference's result is these in turn. -/
theorem result_eq (m : (ℓ : Loc nD τ sig) → Buf (Elt F) ℓ) (c : Dev nD) :
    Value.res_main_v11 m c = last (pre (m ((c.tc : Thread nD τ).loc main_arg2)) (m ((c.tc : Thread nD τ).loc main_arg3)) (m ((c.tc : Thread nD τ).loc main_arg4))
      (m ((c.tc : Thread nD τ).loc main_arg5)) (emb (m ((c.tc : Thread nD τ).loc main_arg0)) (m ((c.tc : Thread nD τ).loc main_arg1)))) := rfl

end Terms

/-- The last function on one extended real. -/
def elu (x : EReal) : EReal := if 0 < x then x else Ideal.exp x - 1

/-- The two layers at an entry: two sums. -/
theorem pre_apply (a2 : FVec Ideal S64x64 .f32) (a3 : FVec Ideal S64 .f32) (a4 : FVec Ideal S6x64 .f32) (a5 : FVec Ideal S6 .f32) (e : FVec Ideal S4096x200x64 .f32)
    (b : Fin 4096) (l : Fin 200) (q : Fin 6) :
    pre a2 a3 a4 a5 e (ix3 b l q)
      = (∑ k : Fin 64, ((∑ j : Fin 64, (e (ix3 b l j) : EReal) * a2 (ix2 k j)) + a3 (ix1 k)) * a4 (ix2 q k)) + a5 (ix1 q) := by
  pointwise [pre]

/-- The last function, entry by entry. -/
theorem last_apply (p : FVec Ideal S4096x200x6 .f32) (j : S4096x200x6.Idx) : last p j = elu (p j) := by
  pointwise [last]
  unfold elu
  by_cases h : (0 : EReal) < p j
  · rw [if_pos h, if_pos h]
  · rw [if_neg h, if_neg h, if_neg h]

/-- A token in range is kept as it is. -/
theorem tok_apply (a0 : IVec S4096x200 32) (i : S4096x200.Idx) (h : (a0 i).toNat < 1000000) : tok a0 i = a0 i := by
  pointwise [tok]
  exact Routing.wrap_of_lt (a0 i) _ (by omega)

/-- Tokens all in range are all told in range. -/
theorem good_apply (a0 : IVec S4096x200 32) (h : ∀ i, (a0 i).toNat < 1000000) (i : S4096x200.Idx) : good a0 i = 1#1 := by
  unfold good
  refine Host.reduce_andi_one _ _ _ _ _ rfl fun y => ?_
  obtain ⟨b, l, z, rfl⟩ : ∃ (b : Fin 4096) (l : Fin 200) (z : Fin 1), y = ix3 b l z := ⟨y 0, y 1, y 2, eq_ix3 y⟩
  pointwise
  rw [tok_apply a0 _ (h _)]
  have hi := h (ix2 b l)
  have e : (a0 (ix2 b l)).toInt = (a0 (ix2 b l)).toNat := BitVec.toInt_eq_toNat_of_lt (by omega)
  refine IntOp.andi_eq_one.2 ⟨IntOp.cmpi_sge.2 ?_, IntOp.cmpi_sle.2 ?_⟩
  · rw [e]; show (0 : Int) ≤ _; omega
  · rw [e]; show _ ≤ (999999 : Int); omega

/-- The reference's gather read at an entry: the table's entry at the row the token's word names. -/
theorem take_apply {α : Type} (x : S1000000x64.Idx → α) (idx : IVec S4096x200x1 32) (b : Fin 4096) (l : Fin 200) (k : Fin 64) (n : ℕ) (hn : n < 1000000)
    (hb : (idx (ix3 b l 0)).toInt = (n : Int)) :
    Host.gather gather_S1000000x64_S4096x200x1_S4096x200x64_2_0_n_n_0_2_164 x idx (ix3 b l k) = x (ix2 ⟨n, hn⟩ k) := by
  have hs : gather_S1000000x64_S4096x200x1_S4096x200x64_2_0_n_n_0_2_164.siIdx (ix3 b l k) ⟨0, by decide⟩ = ix3 b l 0 := by
    funext a
    refine Fin.ext ?_
    match a with
    | ⟨0, _⟩ => rfl
    | ⟨1, _⟩ => rfl
    | ⟨2, _⟩ => rfl
  unfold Host.gather
  refine congrArg x (funext fun a => Fin.ext ?_)
  match a with
  | ⟨0, _⟩ =>
    show gather_S1000000x64_S4096x200x1_S4096x200x64_2_0_n_n_0_2_164.start (ix3 b l k) idx 0
      + gather_S1000000x64_S4096x200x1_S4096x200x64_2_0_n_n_0_2_164.batchCoord (ix3 b l k) 0
      + gather_S1000000x64_S4096x200x1_S4096x200x64_2_0_n_n_0_2_164.offCoord (ix3 b l k) 0 = n
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S1000000x64_S4096x200x1_S4096x200x64_2_0_n_n_0_2_164.startIndexMap from List.mem_singleton.mpr rfl)]
    refine Eq.trans (congrArg (fun w : BitVec 32 => min w.toInt.toNat (1000000 - 1) + 0 + 0) (congrArg idx hs)) ?_
    show min (idx (ix3 b l 0)).toInt.toNat (1000000 - 1) + 0 + 0 = n
    rw [hb]
    omega
  | ⟨1, _⟩ =>
    show gather_S1000000x64_S4096x200x1_S4096x200x64_2_0_n_n_0_2_164.start (ix3 b l k) idx 1
      + gather_S1000000x64_S4096x200x1_S4096x200x64_2_0_n_n_0_2_164.batchCoord (ix3 b l k) 1
      + gather_S1000000x64_S4096x200x1_S4096x200x64_2_0_n_n_0_2_164.offCoord (ix3 b l k) 1 = k.val
    rw [GatherDims.batchCoord_eq_zero _ _ _ List.not_mem_nil]
    unfold GatherDims.start
    rw [dif_neg (show (1 : Fin 2) ∉ gather_S1000000x64_S4096x200x1_S4096x200x64_2_0_n_n_0_2_164.startIndexMap from by decide)]
    unfold GatherDims.offCoord
    rw [dif_pos (show (1 : Fin 2) ∈ gather_S1000000x64_S4096x200x1_S4096x200x64_2_0_n_n_0_2_164.sKept from by decide)]
    show 0 + 0 + k.val = k.val
    omega

/-- The rows at tokens in range are the table's. -/
theorem emb_apply (a0 : IVec S4096x200 32) (a1 : FVec Ideal S1000000x64 .f32) (b : Fin 4096) (l : Fin 200) (k : Fin 64) (h : ∀ i, (a0 i).toNat < 1000000) :
    emb a0 a1 (ix3 b l k) = a1 (ix2 ⟨(a0 (ix2 b l)).toNat, h _⟩ k) := by
  have e : (a0 (ix2 b l)).toInt = (a0 (ix2 b l)).toNat := BitVec.toInt_eq_toNat_of_lt (by have := h (ix2 b l); omega)
  have g := take_apply a1 (broadcastInDim S4096x200x1 ![0, 1] bcast_S4096x200_S4096x200x1_0_1 (tok a0)) b l k (a0 (ix2 b l)).toNat (h _) (by
    pointwise
    rw [tok_apply a0 _ (h _), e])
  pointwise [emb]
  rw [good_apply a0 h, g]
  rfl

/-- Two layers and the last function on one row `x`: what a row of the table gives one result. -/
def rowRef (x : Fin 64 → EReal) (w1 : Fin 64 → Fin 64 → EReal) (b1 : Fin 64 → EReal) (w2 : Fin 64 → EReal) (b2 : EReal) : EReal :=
  elu ((∑ k : Fin 64, ((∑ j : Fin 64, x j * w1 k j) + b1 k) * w2 k) + b2)

/-- The reference's result at an entry, for tokens in range: the token's row through the two layers. -/
theorem result_apply (a0 : IVec S4096x200 32) (a1 : FVec Ideal S1000000x64 .f32) (a2 : FVec Ideal S64x64 .f32) (a3 : FVec Ideal S64 .f32)
    (a4 : FVec Ideal S6x64 .f32) (a5 : FVec Ideal S6 .f32) (h : ∀ i, (a0 i).toNat < 1000000) (b : Fin 4096) (l : Fin 200) (q : Fin 6) :
    last (pre a2 a3 a4 a5 (emb a0 a1)) (ix3 b l q)
      = rowRef (fun j => a1 (ix2 ⟨(a0 (ix2 b l)).toNat, h _⟩ j)) (fun k j => a2 (ix2 k j)) (fun k => a3 (ix1 k)) (fun k => a4 (ix2 q k)) (a5 (ix1 q)) := by
  rw [last_apply, pre_apply]
  unfold rowRef
  refine congrArg elu (congrArg (fun x : EReal => x + a5 (ix1 q)) (Finset.sum_congr rfl fun k _ => ?_))
  refine congrArg (fun x : EReal => (x + a3 (ix1 k)) * a4 (ix2 q k)) (Finset.sum_congr rfl fun j _ => ?_)
  exact congrArg (fun x : EReal => x * a2 (ix2 k j)) (emb_apply a0 a1 b l j h)

end Cert.Mlp.Ref

end
-- ==== Proof.Layer.lean ====
module

public import proofs.«01_k».proof.Proof.RefValue
public import proofs.«01_k».proof.Proof.Ring1
public import proofs.«01_k».proof.Proof.HostOps
public import Idealize.ShloMosaic.Lib.Routing.OpsPair

@[expose] public section

noncomputable section

namespace Cert.Mlp

open Cert.KernelIdeal Cert.KernelIdeal.Gen Idealize.ShloMosaic
open Cert.Mlp.Ref (elu)

/-! ## The kernel's one layer, entry by entry -/

/-- A row `x` through one layer of matrix row `w` and bias `b`, then the last function. -/
def rowK (x : Fin 64 → EReal) (w : Fin 64 → EReal) (b : EReal) : EReal := elu ((∑ k : Fin 64, x k * w k) + b)

/-- The TensorCore's layer at an entry. -/
theorem pay_apply (v15 : FVec Ideal S64x16 .f32) (v17 : FVec Ideal S1x16 .f32) (x : FVec Ideal S1x64x1984 .f32) (g : Fin 1984) (q : Fin 16) :
    k0_pay1 v15 v17 x (ix2 g q) = rowK (fun k => x (ix3 0 k g)) (fun k => v15 (ix2 k q)) (v17 (ix2 0 q)) := by
  pointwise [k0_pay1]
  rfl

/-- The last sixty-four rows' layer. -/
def tail (a1 : FVec Ideal S1000000x64 .f32) (v6 : FVec Ideal S16x64 .f32) (v9 : FVec Ideal S1x16 .f32) : FVec Ideal S8x128 .f32 :=
  let o := addf (Host.dotGeneral dot_S64x64_S64x16_S64x16_1_0_0_1_n_n (some .fp32) (extractStridedSlice S64x64 ![999936, 0] a1 slices_S1000000x64_S64x64_999936_0)
    (transpose S64x16 [1, 0] v6 transposes_S16x64_S64x16_1_0)) (broadcastInDim S64x16 ![0, 1] bcast_S1x16_S64x16_0_1 v9)
  shapeCast S8x128 (select (cmpf .ogt o (broadcastInDim S64x16 ![] bcast_S_S64x16 (constant S_ .f32 0x00000000#32))) o (Host.expm1 o)) shapeCasts_S64x16_S8x128

/-- The last sixty-four rows' layer at an entry: lane `c` of line `r` is unit `c mod 16` at row `999936 + 8 r + c / 16`. -/
theorem tail_apply (a1 : FVec Ideal S1000000x64 .f32) (v6 : FVec Ideal S16x64 .f32) (v9 : FVec Ideal S1x16 .f32) (r : Fin 8) (c : Fin 128) :
    tail a1 v6 v9 (ix2 r c) = rowK (fun k => a1 (ix2 ⟨999936 + (r.val * 8 + c.val / 16), by omega⟩ k))
      (fun k => v6 (ix2 ⟨c.val % 16, Nat.mod_lt _ (by decide)⟩ k)) (v9 (ix2 0 ⟨c.val % 16, Nat.mod_lt _ (by decide)⟩)) := by
  pointwise [tail]
  rfl

/-- The packed table seen as a million rows of sixteen. -/
theorem tbl_apply {α : Type} (x : S125000x128.Idx → α) (n : Fin 1000000) (q : Fin 16) :
    shapeCast S1000000x16 x shapeCasts_S125000x128_S1000000x16 (ix2 n q) = x (ix2 ⟨n.val / 8, by omega⟩ ⟨n.val % 8 * 16 + q.val, by omega⟩) := by
  pointwise

/-! ## The one matrix and the one bias -/

/-- The second layer's matrix over ten rows of zeros. -/
def pad2 (a4 : FVec Ideal S6x64 .f32) : FVec Ideal S16x64 .f32 :=
  Host.scatter scatter_S16x64_S1_S6x64_01_n_0_0 (fun _ b => b) (broadcastInDim S16x64 ![] bcast_S_S16x64 (constant S_ .f32 0x00000000#32))
    (broadcastInDim S1 ![] bcast_S_S1 (constantI S_ 32 0#32)) a4

/-- The second layer's bias over ten zeros. -/
def pad1 (a5 : FVec Ideal S6 .f32) : FVec Ideal S16 .f32 :=
  Host.scatter scatter_S16_S1_S6_0_n_0_0 (fun _ b => b) (broadcastInDim S16 ![] bcast_S_S16 (constant S_ .f32 0x00000000#32))
    (broadcastInDim S1 ![] bcast_S_S1 (constantI S_ 32 0#32)) a5

/-- The product of the two matrices. -/
def prodM (a2 : FVec Ideal S64x64 .f32) (a4 : FVec Ideal S6x64 .f32) : FVec Ideal S16x64 .f32 :=
  Host.dotGeneral dot_S16x64_S64x64_S16x64_1_0_0_1_n_n (some .fp32) (pad2 a4) a2

/-- The one bias, as a line. -/
def biasM (a3 : FVec Ideal S64 .f32) (a4 : FVec Ideal S6x64 .f32) (a5 : FVec Ideal S6 .f32) : FVec Ideal S1x16 .f32 :=
  shapeCast S1x16 (addf (Host.dotGeneral dot_S16x64_S64_S16_1_0_0_n_n_n none (pad2 a4) a3) (pad1 a5)) shapeCasts_S16_S1x16

theorem land2 (idx : IVec S1 32) (h : ∀ i, idx i = 0#32) (k : S6x64.Idx) (r : Fin 16) (c : Fin 64) :
    scatter_S16x64_S1_S6x64_01_n_0_0.resultIdx? k idx = some (ix2 r c) ↔ (k 0).val = r.val ∧ (k 1).val = c.val := by
  have s0 : scatter_S16x64_S1_S6x64_01_n_0_0.start k idx 0 = 0 := by
    unfold ScatterDims.start
    rw [dif_pos (show (0 : Fin 2) ∈ scatter_S16x64_S1_S6x64_01_n_0_0.scatterDimsToOperandDims from List.mem_singleton.2 rfl), h]
    rfl
  have s1 : scatter_S16x64_S1_S6x64_01_n_0_0.start k idx 1 = 0 := by
    unfold ScatterDims.start
    rw [dif_neg (show (1 : Fin 2) ∉ scatter_S16x64_S1_S6x64_01_n_0_0.scatterDimsToOperandDims from by decide)]
  have w0 : scatter_S16x64_S1_S6x64_01_n_0_0.window k 0 = (k 0).val := by
    unfold ScatterDims.window
    rw [dif_pos (show (0 : Fin 2) ∈ scatter_S16x64_S1_S6x64_01_n_0_0.sKept from by decide)]
    rfl
  have w1 : scatter_S16x64_S1_S6x64_01_n_0_0.window k 1 = (k 1).val := by
    unfold ScatterDims.window
    rw [dif_pos (show (1 : Fin 2) ∈ scatter_S16x64_S1_S6x64_01_n_0_0.sKept from by decide)]
    rfl
  rw [Routing.resultIdx?_eq_some]
  constructor
  · intro e
    have e0 := e 0
    have e1 := e 1
    rw [s0, w0] at e0
    rw [s1, w1] at e1
    have e0' : (0 : Int) + ((k 0).val : Int) = (r.val : Int) := e0
    have e1' : (0 : Int) + ((k 1).val : Int) = (c.val : Int) := e1
    omega
  · rintro ⟨e0, e1⟩ a
    match a with
    | ⟨0, _⟩ => exact (congrArg₂ (fun x y => x + ((y : ℕ) : Int)) s0 (w0.trans e0)).trans (Int.zero_add _)
    | ⟨1, _⟩ => exact (congrArg₂ (fun x y => x + ((y : ℕ) : Int)) s1 (w1.trans e1)).trans (Int.zero_add _)

theorem land1 (idx : IVec S1 32) (h : ∀ i, idx i = 0#32) (k : S6.Idx) (r : Fin 16) :
    scatter_S16_S1_S6_0_n_0_0.resultIdx? k idx = some (ix1 r) ↔ (k 0).val = r.val := by
  have s0 : scatter_S16_S1_S6_0_n_0_0.start k idx 0 = 0 := by
    unfold ScatterDims.start
    rw [dif_pos (show (0 : Fin 1) ∈ scatter_S16_S1_S6_0_n_0_0.scatterDimsToOperandDims from List.mem_singleton.2 rfl), h]
    rfl
  have w0 : scatter_S16_S1_S6_0_n_0_0.window k 0 = (k 0).val := by
    unfold ScatterDims.window
    rw [dif_pos (show (0 : Fin 1) ∈ scatter_S16_S1_S6_0_n_0_0.sKept from by decide)]
    rfl
  rw [Routing.resultIdx?_eq_some]
  constructor
  · intro e
    have e0 := e 0
    rw [s0, w0] at e0
    have e0' : (0 : Int) + ((k 0).val : Int) = (r.val : Int) := e0
    omega
  · intro e0 a
    match a with
    | ⟨0, _⟩ => exact (congrArg₂ (fun x y => x + ((y : ℕ) : Int)) s0 (w0.trans e0)).trans (Int.zero_add _)

/-- The padded matrix's first six rows are the matrix's. -/
theorem pad2_apply (a4 : FVec Ideal S6x64 .f32) (q : Fin 6) (k : Fin 64) : pad2 a4 (ix2 ⟨q.val, by omega⟩ k) = a4 (ix2 q k) := by
  unfold pad2
  have hz : ∀ i, (broadcastInDim S1 ![] bcast_S_S1 (constantI S_ 32 0#32) : IVec S1 32) i = 0#32 := fun i => by pointwise
  refine Routing.scatter_set_hit _ _ _ _ _ _ (fun y hy => ?_) (ix2 q k) ((land2 _ hz _ _ _).2 ⟨rfl, rfl⟩)
  obtain ⟨e0, e1⟩ := (land2 _ hz y _ _).1 hy
  obtain ⟨y0, y1, rfl⟩ : ∃ (y0 : Fin 6) (y1 : Fin 64), y = ix2 y0 y1 := ⟨y 0, y 1, eq_ix2 y⟩
  obtain rfl : y0 = q := Fin.ext e0
  obtain rfl : y1 = k := Fin.ext e1
  rfl

/-- The padded bias's first six entries are the bias's. -/
theorem pad1_apply (a5 : FVec Ideal S6 .f32) (q : Fin 6) : pad1 a5 (ix1 ⟨q.val, by omega⟩) = a5 (ix1 q) := by
  unfold pad1
  have hz : ∀ i, (broadcastInDim S1 ![] bcast_S_S1 (constantI S_ 32 0#32) : IVec S1 32) i = 0#32 := fun i => by pointwise
  refine Routing.scatter_set_hit _ _ _ _ _ _ (fun y hy => ?_) (ix1 q) ((land1 _ hz _ _).2 rfl)
  have e0 := (land1 _ hz y _).1 hy
  obtain ⟨y0, rfl⟩ : ∃ (y0 : Fin 6), y = ix1 y0 := ⟨y 0, eq_ix1 y⟩
  obtain rfl : y0 = q := Fin.ext e0
  rfl

/-- The product's first six rows. -/
theorem prodM_apply (a2 : FVec Ideal S64x64 .f32) (a4 : FVec Ideal S6x64 .f32) (q : Fin 6) (j : Fin 64) :
    (prodM a2 a4 (ix2 ⟨q.val, by omega⟩ j) : EReal) = ∑ k : Fin 64, (a4 (ix2 q k) : EReal) * a2 (ix2 k j) := by
  pointwise [prodM]
  simp only [pad2_apply]

/-- The one bias's first six entries. -/
theorem biasM_apply (a3 : FVec Ideal S64 .f32) (a4 : FVec Ideal S6x64 .f32) (a5 : FVec Ideal S6 .f32) (q : Fin 6) :
    (biasM a3 a4 a5 (ix2 0 ⟨q.val, by omega⟩) : EReal) = (∑ k : Fin 64, (a4 (ix2 q k) : EReal) * a3 (ix1 k)) + a5 (ix1 q) := by
  pointwise [biasM]
  simp only [pad2_apply, pad1_apply]

end Cert.Mlp

end
-- ==== Proof.Blocks.lean ====
module

public import proofs.«01_k».proof.Proof.Region1
public import Idealize.ShloMosaic.Lib.Pipeline.Value
public import Idealize.ShloMosaic.Lib.Pipeline.ClipFacts

@[expose] public section

noncomputable section

namespace Cert.Mlp

open Cert.KernelIdeal Cert.KernelIdeal.Gen

open Idealize.ShloMosaic
open Idealize.ShloMosaic.ValueIdx (ix1 ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-! ## What the two pipelines leave in their arrays -/

section Blocks

variable (V : (c : Dev nD) → (b : Ref sig .tc) → Buf (Elt F) (tcLoc c b)) (c : Dev nD)

/-- The output block depends on its block and its element alone. -/
theorem outBlk_congr (A : FVec F S64x1000000 .f32) (v14 : FVec F S64x16 .f32) (v16 : FVec F S1x16 .f32) {b b' : Fin 63} (eb : b = b')
    {y y' : S1984x128.Idx} (ey : y = y') : outBlk A b v14 v16 y = outBlk A b' v14 v16 y' := by
  subst eb ey; rfl

/-- The packed table after the first pipeline: its blocks' rows, the rest as before. -/
def packed : FVec F S125000x128 .f32 := fun i =>
  if h : (i 0).val < 124992 then
    outBlk (V c main_v10) ⟨(i 0).val / 1984, by omega⟩ (V c main_v11) (V c main_v9) (ix2 ⟨(i 0).val % 1984, Nat.mod_lt _ (by decide)⟩ (i 1))
  else (V c main_v12 : FVec F S125000x128 .f32) i

theorem packed_of (i : S125000x128.Idx) (b : Fin 63) (y : S1984x128.Idx) (h0 : (i 0).val = b.val * 1984 + (y 0).val) (h1 : (i 1).val = (y 1).val) :
    packed V c i = outBlk (V c main_v10) b (V c main_v11) (V c main_v9) y := by
  have hy : (y 0).val < 1984 := (y 0).isLt
  have hb := b.isLt
  unfold packed
  rw [dif_pos (by omega)]
  refine outBlk_congr _ _ _ (Fin.ext (by show (i 0).val / 1984 = b.val; omega)) (funext fun a => Fin.ext ?_)
  match a with
  | ⟨0, _⟩ => show (i 0).val % 1984 = (y 0).val; omega
  | ⟨1, _⟩ => exact h1

/-- Point `t` of the first pipeline writes block `t` of its array. -/
theorem index0 (t : Fin cfg0.N) : cc0_transform_3 (grid0.coords t) 0 = t.val := by
  have ht : t.val < 63 := t.isLt
  show (BitVec.ofNat 32 ((grid0.coords t) 0).val).toNat = t.val
  rw [coords0 t, BitVec.toNat_ofNat]
  omega

/-- No block of it is cut. -/
theorem xsize0 (t : Fin cfg0.N) : (cfg0.win 2).xsize (cfg0.grid.coords t) 0 = 1984 := by
  have ht : t.val < 63 := t.isLt
  refine Pipeline.Clip.extent_of_inb ?_
  show (cc0_transform_3 (grid0.coords t) 0 + 1) * 1984 ≤ 125000
  rw [index0]
  omega

/-- An element of block `t` in the array: row `1984 t` on, the same lane. -/
theorem emb0_0 (t : Fin cfg0.N) (y : ((cfg0.win 2).xblock (cfg0.grid.coords t)).Idx) :
    ((((cfg0.win 2).blk t).view.emb y : S125000x128.Idx) 0).val = t.val * 1984 + (y 0).val := by
  refine ((cfg0.win 2).rect_emb_val_off t y 0).trans ?_
  show cc0_transform_3 (grid0.coords t) 0 * 1984 + (y 0).val = t.val * 1984 + (y 0).val
  rw [index0]

theorem emb0_1 (t : Fin cfg0.N) (y : ((cfg0.win 2).xblock (cfg0.grid.coords t)).Idx) :
    ((((cfg0.win 2).blk t).view.emb y : S125000x128.Idx) 1).val = (y 1).val := by
  refine ((cfg0.win 2).rect_emb_val_off t y 1).trans ?_
  show 0 * 128 + (y 1).val = (y 1).val
  omega

/-- What the first pipeline leaves at an element one of its blocks covers. -/
theorem arr0_apply (i : S125000x128.Idx) (h : (i 0).val < 124992) :
    ((dat0 V c).arrAt 2 cfg0.N : FVec F S125000x128 .f32) i = packed V c i := by
  have hP := (dat0 V c).arrAt_forall_of_flushed 2 (fun i v => v = packed V c i) (fun t hf y =>
    (packed_of V c _ (Ring.bk 63 t.val) ((cfg0.win 2).xinj (cfg0.grid.coords t) y)
      ((emb0_0 t y).trans (congrArg (fun n => n * 1984 + (y 0).val) (Ring.bk_val (NB := 63) t.isLt).symm)) (emb0_1 t y)).symm)
  have ht : (i 0).val / 1984 < cfg0.N := by show _ < 63; omega
  have h1 : (i 1).val < 128 := (i 1).isLt
  refine hP cfg0.N ⟨(i 0).val / 1984, ht⟩ i ht (flush0_2 _) ?_
  let y : ((cfg0.win 2).xblock (cfg0.grid.coords ⟨(i 0).val / 1984, ht⟩)).Idx := fun a => match a with
    | ⟨0, _⟩ => ⟨(i 0).val % 1984, lt_of_lt_of_eq (Nat.mod_lt _ (by decide)) (xsize0 _).symm⟩
    | ⟨1, _⟩ => ⟨(i 1).val, h1⟩
  have e : ((cfg0.win 2).blk ⟨(i 0).val / 1984, ht⟩).view.emb y = i := by
    funext a
    refine Fin.ext ?_
    match a with
    | ⟨0, _⟩ =>
      refine (emb0_0 _ y).trans ?_
      show (i 0).val / 1984 * 1984 + (i 0).val % 1984 = (i 0).val
      omega
    | ⟨1, _⟩ => exact emb0_1 _ y
  exact Eq.mp (congrArg (fun z => z ∈ ((cfg0.win 2).blk ⟨(i 0).val / 1984, ht⟩).view.set) e) (View.emb_mem_set _ y)

/-- The one block the second pipeline writes: the array's last eight lines. -/
theorem emb1_0 (t : Fin cfg1.N) (y : S8x128.Idx) : ((((cfg1.win 1).blk t).view.emb y : S125000x128.Idx) 0).val = 124992 + (y 0).val := by
  refine ((cfg1.win 1).rect_emb_val_off t y 0).trans ?_
  show 15624 * 8 + (y 0).val = 124992 + (y 0).val
  omega

theorem emb1_1 (t : Fin cfg1.N) (y : S8x128.Idx) : ((((cfg1.win 1).blk t).view.emb y : S125000x128.Idx) 1).val = (y 1).val := by
  refine ((cfg1.win 1).rect_emb_val_off t y 1).trans ?_
  show 0 * 128 + (y 1).val = (y 1).val
  omega

/-- What the second pipeline leaves in the last eight lines: the eight it was given. -/
theorem arr1_last (r : Fin 8) (l : Fin 128) (i : S125000x128.Idx) (h0 : (i 0).val = 124992 + r.val) (h1 : (i 1).val = l.val) :
    ((dat1 V c).arrAt 1 cfg1.N : FVec F S125000x128 .f32) i = (V c main_v22 : FVec F S8x128 .f32) (ix2 r l) := by
  have hP := (dat1 V c).arrAt_forall_of_flushed 1
    (fun i v => ∀ (r : Fin 8) (l : Fin 128), ((i : S125000x128.Idx) 0).val = 124992 + r.val → ((i : S125000x128.Idx) 1).val = l.val →
      v = (V c main_v22 : FVec F S8x128 .f32) (ix2 r l)) (fun t hf y r l e0 e1 => by
    have hy0 := (emb1_0 t y).symm.trans e0
    have hy1 := (emb1_1 t y).symm.trans e1
    have ey : y = ix2 r l := funext fun a => Fin.ext (by
      match a with
      | ⟨0, _⟩ => exact Nat.add_left_cancel hy0
      | ⟨1, _⟩ => exact hy1)
    subst ey
    exact congrFun (shapeCast_self (V c main_v22 : FVec F S8x128 .f32) _) (ix2 r l))
  obtain ⟨t⟩ : Nonempty (Fin cfg1.N) := ⟨⟨0, by decide⟩⟩
  have e : (((cfg1.win 1).blk t).view.emb (ix2 r l : S8x128.Idx) : S125000x128.Idx) = i := by
    funext a
    refine Fin.ext ?_
    match a with
    | ⟨0, _⟩ => exact (emb1_0 t (ix2 r l)).trans h0.symm
    | ⟨1, _⟩ => exact (emb1_1 t (ix2 r l)).trans h1.symm
  refine hP cfg1.N t i t.isLt (flush1_1 _) ?_ r l h0 h1
  exact Eq.mp (congrArg (fun z : S125000x128.Idx => z ∈ ((cfg1.win 1).blk t).view.set) e) (View.emb_mem_set _ (ix2 r l : S8x128.Idx))

/-- What it leaves elsewhere: what was there. -/
theorem arr1_rest (i : S125000x128.Idx) (h : (i 0).val < 124992) :
    ((dat1 V c).arrAt 1 cfg1.N : FVec F S125000x128 .f32) i = (V c main_v23 : FVec F S125000x128 .f32) i := by
  refine (dat1 V c).arrAt_apply_of_forall_not_mem 1 cfg1.N i fun t _ _ hm => ?_
  obtain ⟨y, -, e⟩ := Finset.mem_map.1 hm
  have h0 := emb1_0 t y
  have e' := congrArg (fun z : S125000x128.Idx => (z 0).val) e
  have e'' : (i 0).val = 124992 + (y 0).val := e'.symm.trans h0
  omega

end Blocks

end Cert.Mlp

end
-- ==== Proof.Table.lean ====
module

public import proofs.«01_k».proof.Proof.Layer
public import proofs.«01_k».proof.Proof.Blocks
public import proofs.«01_k».proof.Proof.Domain

@[expose] public section

noncomputable section

namespace Cert.Mlp

open Cert.KernelIdeal Cert.KernelIdeal.Gen Idealize.ShloMosaic
open Idealize.ShloMosaic.StableHlo (TRef after launchContents after_of_writes_sub)

/-! ## A block of the packed table, entry by entry -/

/-- Lane `l` of line `g` of block `b` is unit `l mod 16` at row `15872 b + 1984 (l / 16) + g`. -/
theorem outBlk_apply (a1 : FVec Ideal S1000000x64 .f32) (w : FVec Ideal S16x64 .f32) (v9 : FVec Ideal S1x16 .f32) (b : Fin 63) (g : Fin 1984) (l : Fin 128) :
    outBlk (transpose S64x1000000 [1, 0] a1 transposes_S1000000x64_S64x1000000_1_0) b (transpose S64x16 [1, 0] w transposes_S16x64_S64x16_1_0) v9 (ix2 g l)
      = rowK (fun k => a1 (ix2 ⟨15872 * b.val + 1984 * (l.val / 16) + g.val, by omega⟩ k))
        (fun k => w (ix2 ⟨l.val % 16, Nat.mod_lt _ (by decide)⟩ k)) (v9 (ix2 0 ⟨l.val % 16, Nat.mod_lt _ (by decide)⟩)) := by
  unfold outBlk
  refine (pay_apply _ _ _ g ⟨l.val % 16, Nat.mod_lt _ (by decide)⟩).trans ?_
  unfold rowK stripeIn
  pointwise [k0_pay2, k0_pay3]

/-! ## What the host operations hand the pipelines -/

section Host

variable (V : Valuation τ sig (Elt Ideal))

theorem opsA_v6 : after opsA V (Proc.devRef .tc main_v6) = prodM (V (Proc.devRef .tc main_arg2)) (V (Proc.devRef .tc main_arg4)) := by
  simp only [opsA, TRef.binary, TRef.nullary, TRef.ternary, TRef.unary, TRef.toBuf, TRef.ofBuf, cast_eq]
  after_results_simp
  first | done | rfl

theorem opsA_v9 : after opsA V (Proc.devRef .tc main_v9)
    = biasM (V (Proc.devRef .tc main_arg3)) (V (Proc.devRef .tc main_arg4)) (V (Proc.devRef .tc main_arg5)) := by
  simp only [opsA, TRef.binary, TRef.nullary, TRef.ternary, TRef.unary, TRef.toBuf, TRef.ofBuf, cast_eq]
  after_results_simp
  first | done | rfl

theorem opsA_v10 : after opsA V (Proc.devRef .tc main_v10)
    = (transpose S64x1000000 [1, 0] (V (Proc.devRef .tc main_arg1) : FVec Ideal S1000000x64 .f32) transposes_S1000000x64_S64x1000000_1_0 : FVec Ideal S64x1000000 .f32) := by
  simp only [opsA, TRef.binary, TRef.nullary, TRef.ternary, TRef.unary, TRef.toBuf, TRef.ofBuf, cast_eq]
  after_results_simp
  first | done | rfl

theorem opsA_v11 : after opsA V (Proc.devRef .tc main_v11)
    = (transpose S64x16 [1, 0] (prodM (V (Proc.devRef .tc main_arg2)) (V (Proc.devRef .tc main_arg4))) transposes_S16x64_S64x16_1_0 : FVec Ideal S64x16 .f32) := by
  simp only [opsA, TRef.binary, TRef.nullary, TRef.ternary, TRef.unary, TRef.toBuf, TRef.ofBuf, cast_eq]
  after_results_simp
  first | done | rfl

theorem opsB_v22 : after opsB V (Proc.devRef .tc main_v22)
    = tail (V (Proc.devRef .tc main_arg1)) (V (Proc.devRef .tc main_v6)) (V (Proc.devRef .tc main_v9)) := by
  simp only [opsB, TRef.binary, TRef.nullary, TRef.ternary, TRef.unary, TRef.toBuf, TRef.ofBuf, cast_eq]
  after_results_simp
  first | done | rfl

theorem opsB_v23 : after (opsB (F := Ideal)) V (Proc.devRef .tc main_v23) = V (Proc.devRef .tc main_v12) := by
  simp only [opsB, TRef.binary, TRef.nullary, TRef.ternary, TRef.unary, TRef.toBuf, TRef.ofBuf, cast_eq]
  after_results_simp
  first | done | rfl

theorem opsD_v41 : after opsD V (Proc.devRef .tc main_v41)
    = (shapeCast S4096x200x6 (extractStridedSlice S819200x6 ![0, 0] (V (Proc.devRef .tc main_v39) : FVec Ideal S819200x16 .f32) slices_S819200x16_S819200x6_0_0)
        shapeCasts_S819200x6_S4096x200x6 : FVec Ideal S4096x200x6 .f32) := by
  simp only [opsD, TRef.binary, TRef.nullary, TRef.ternary, TRef.unary, TRef.toBuf, TRef.ofBuf, cast_eq]
  after_results_simp
  first | done | rfl

end Host

/-! ## The packed table, row by row -/

section Rows

variable (m : (ℓ : Loc nD τ sig) → Buf (Elt Ideal) ℓ) (d : Dev nD)

/-- The program's arguments on a device: the table, the two matrices and the two biases. -/
def arg1 : FVec Ideal S1000000x64 .f32 := m (tcLoc d main_arg1)
def arg2 : FVec Ideal S64x64 .f32 := m (tcLoc d main_arg2)
def arg3 : FVec Ideal S64 .f32 := m (tcLoc d main_arg3)
def arg4 : FVec Ideal S6x64 .f32 := m (tcLoc d main_arg4)
def arg5 : FVec Ideal S6 .f32 := m (tcLoc d main_arg5)

theorem W1_v6 : W1 m d (Proc.devRef .tc main_v6) = prodM (arg2 m d) (arg4 m d) := opsA_v6 _
theorem W1_v9 : W1 m d (Proc.devRef .tc main_v9) = biasM (arg3 m d) (arg4 m d) (arg5 m d) := opsA_v9 _
theorem W1_v10 : W1 m d (Proc.devRef .tc main_v10) = (transpose S64x1000000 [1, 0] (arg1 m d) transposes_S1000000x64_S64x1000000_1_0 : FVec Ideal S64x1000000 .f32) :=
  opsA_v10 _
theorem W1_v11 : W1 m d (Proc.devRef .tc main_v11) = (transpose S64x16 [1, 0] (prodM (arg2 m d) (arg4 m d)) transposes_S16x64_S64x16_1_0 : FVec Ideal S64x16 .f32) :=
  opsA_v11 _

/-- A buffer the first pipeline does not write is as the host left it. -/
theorem W2_keep {b : Ref sig .tc} (h : b ≠ main_v12) : W2 m d (Proc.devRef .tc b) = W1 m d (Proc.devRef .tc b) :=
  Function.update_of_ne (devRef_ne h) _ _

theorem W1_arg1 : W1 m d (Proc.devRef .tc main_arg1) = arg1 m d := after_of_writes_sub _ _ opsA_writes (by decide)

theorem W3_v22 : W3 m d (Proc.devRef .tc main_v22) = tail (arg1 m d) (prodM (arg2 m d) (arg4 m d)) (biasM (arg3 m d) (arg4 m d) (arg5 m d)) := by
  unfold W3
  rw [opsB_v22, W2_keep m d (by decide), W2_keep m d (by decide), W2_keep m d (by decide), W1_arg1, W1_v6, W1_v9]

theorem W3_v23 : W3 m d (Proc.devRef .tc main_v23) = (dat0 (tcV (W1 m)) d).arrAt 2 cfg0.N := by
  unfold W3
  rw [opsB_v23]
  exact Function.update_self _ _ _

theorem W4_v23 : W4 m d (Proc.devRef .tc main_v23) = (dat1 (tcV (W3 m)) d).arrAt 1 cfg1.N := Function.update_self _ _ _

/-- The layer of table row `v` in unit `q`. -/
def unit (v : Fin 1000000) (q : Fin 16) : EReal :=
  rowK (fun k => arg1 m d (ix2 v k)) (fun k => prodM (arg2 m d) (arg4 m d) (ix2 q k)) (biasM (arg3 m d) (arg4 m d) (arg5 m d) (ix2 0 q))

/-- The layer of a row depends on its row and unit alone. -/
theorem unit_congr {v v' : Fin 1000000} {q q' : Fin 16} (ev : v.val = v'.val) (eq : q.val = q'.val) : unit m d v q = unit m d v' q' := by
  obtain rfl := Fin.ext ev
  obtain rfl := Fin.ext eq
  rfl

/-- The first pipeline's blocks, from the program's arguments. -/
theorem outBlk_eq (b : Fin 63) (y : S1984x128.Idx) :
    outBlk (tcV (W1 m) d main_v10) b (tcV (W1 m) d main_v11) (tcV (W1 m) d main_v9) y
      = outBlk (transpose S64x1000000 [1, 0] (arg1 m d) transposes_S1000000x64_S64x1000000_1_0) b
          (transpose S64x16 [1, 0] (prodM (arg2 m d) (arg4 m d)) transposes_S16x64_S64x16_1_0) (biasM (arg3 m d) (arg4 m d) (arg5 m d)) y :=
  congrFun (congr (congr (congrFun (congrArg outBlk (W1_v10 m d)) b) (W1_v11 m d)) (W1_v9 m d)) y

/-- A line of the packed table below the last eight, in the first pipeline's words. -/
theorem line_low (n : Fin 125000) (l : Fin 128) (b : Fin 63) (g : Fin 1984) (hn : n.val = b.val * 1984 + g.val) :
    (W4 m d (Proc.devRef .tc main_v23) : FVec Ideal S125000x128 .f32) (ix2 n l)
      = unit m d ⟨15872 * b.val + 1984 * (l.val / 16) + g.val, by omega⟩ ⟨l.val % 16, Nat.mod_lt _ (by decide)⟩ := by
  have hlt : n.val < 124992 := by omega
  rw [W4_v23]
  refine (arr1_rest (tcV (W3 m)) d (ix2 n l) hlt).trans ?_
  refine (congrFun (W3_v23 m d) (ix2 n l)).trans ?_
  refine (arr0_apply (tcV (W1 m)) d (ix2 n l) hlt).trans ?_
  refine (packed_of (tcV (W1 m)) d (ix2 n l) b (ix2 g l) hn rfl).trans ?_
  exact (outBlk_eq m d b (ix2 g l)).trans (outBlk_apply _ _ _ b g l)

/-- A line of the packed table among the last eight. -/
theorem line_high (n : Fin 125000) (l : Fin 128) (r : Fin 8) (hn : n.val = 124992 + r.val) :
    (W4 m d (Proc.devRef .tc main_v23) : FVec Ideal S125000x128 .f32) (ix2 n l)
      = unit m d ⟨999936 + (r.val * 8 + l.val / 16), by omega⟩ ⟨l.val % 16, Nat.mod_lt _ (by decide)⟩ := by
  rw [W4_v23]
  refine (arr1_last (tcV (W3 m)) d r l (ix2 n l) hn rfl).trans ?_
  show (W3 m d (Proc.devRef .tc main_v22) : FVec Ideal S8x128 .f32) (ix2 r l) = _
  rw [W3_v22]
  exact tail_apply _ _ _ r l

/-- The row the gather reads for token `v` is the layer of table row `v`. -/
theorem table_apply (v : Fin 1000000) (hr : rowN v.val < 1000000) (q : Fin 16) : tblOf m d (ix2 ⟨rowN v.val, hr⟩ q) = unit m d v q := by
  have hv := v.isLt
  unfold tblOf W5
  rw [opsC_v38]
  refine (tbl_apply _ _ q).trans ?_
  by_cases hlow : v.val < 999936
  · have e : rowN v.val = (v.val / 15872 * 1984 + v.val % 15872 % 1984) * 8 + v.val % 15872 / 1984 := if_pos hlow
    refine (line_low m d _ _ ⟨v.val / 15872, by omega⟩ ⟨v.val % 15872 % 1984, Nat.mod_lt _ (by decide)⟩ ?_).trans (unit_congr m d ?_ ?_)
    · show rowN v.val / 8 = v.val / 15872 * 1984 + v.val % 15872 % 1984
      omega
    · show 15872 * (v.val / 15872) + 1984 * ((rowN v.val % 8 * 16 + q.val) / 16) + v.val % 15872 % 1984 = v.val
      omega
    · show (rowN v.val % 8 * 16 + q.val) % 16 = q.val
      omega
  · have e : rowN v.val = v.val := if_neg hlow
    refine (line_high m d _ _ ⟨v.val / 8 - 124992, by omega⟩ ?_).trans (unit_congr m d ?_ ?_)
    · show rowN v.val / 8 = 124992 + (v.val / 8 - 124992)
      omega
    · show 999936 + ((v.val / 8 - 124992) * 8 + (rowN v.val % 8 * 16 + q.val) / 16) = v.val
      omega
    · show (rowN v.val % 8 * 16 + q.val) % 16 = q.val
      omega

end Rows

end Cert.Mlp

end
-- ==== Proof.Fold.lean ====
module

public import proofs.«01_k».proof.Proof.Layer

@[expose] public section

noncomputable section

namespace Cert.Mlp

open Cert.Mlp.Ref (elu rowRef)

/-! ## Two layers are one, over real rows and matrices -/

/-- Over the reals, the two layers' sum is one sum against the product of the matrices. -/
theorem two_layers_real (x : Fin 64 → ℝ) (w1 : Fin 64 → Fin 64 → ℝ) (w2 : Fin 64 → ℝ) :
    ∑ k : Fin 64, (∑ j : Fin 64, x j * w1 k j) * w2 k = ∑ j : Fin 64, x j * ∑ k : Fin 64, w2 k * w1 k j := by
  have e : ∀ k, (∑ j : Fin 64, x j * w1 k j) * w2 k = ∑ j : Fin 64, x j * (w2 k * w1 k j) := fun k => by
    rw [Finset.sum_mul]
    exact Finset.sum_congr rfl fun j _ => by ring
  rw [Finset.sum_congr rfl fun k _ => e k, Finset.sum_comm]
  exact Finset.sum_congr rfl fun j _ => (Finset.mul_sum _ _ _).symm

/-- A real times the sum of a real and any extended real. -/
theorem add_mul_real (s w : ℝ) (b : EReal) : ((s : EReal) + b) * w = (s : EReal) * w + w * b := by
  induction b with
  | coe b => rw [← EReal.coe_add, ← EReal.coe_mul, ← EReal.coe_mul, ← EReal.coe_mul, ← EReal.coe_add]; exact congrArg _ (by ring)
  | bot =>
    rw [EReal.add_bot, ← EReal.coe_mul]
    rcases lt_trichotomy w 0 with hw | rfl | hw
    · rw [EReal.bot_mul_coe_of_neg hw, EReal.coe_mul_bot_of_neg hw, EReal.coe_add_top]
    · simp
    · rw [EReal.bot_mul_coe_of_pos hw, EReal.coe_mul_bot_of_pos hw, EReal.add_bot]
  | top =>
    rw [EReal.coe_add_top, ← EReal.coe_mul]
    rcases lt_trichotomy w 0 with hw | rfl | hw
    · rw [EReal.top_mul_coe_of_neg hw, EReal.coe_mul_top_of_neg hw, EReal.add_bot]
    · simp
    · rw [EReal.top_mul_coe_of_pos hw, EReal.coe_mul_top_of_pos hw, EReal.coe_add_top]

/-- A sum of real numbers in the extended reals. -/
theorem coe_sum {n : ℕ} (f : Fin n → ℝ) : ((∑ k : Fin n, f k : ℝ) : EReal) = ∑ k : Fin n, (f k : EReal) := by
  induction n with
  | zero => simp
  | succ n ih => rw [Fin.sum_univ_succ, Fin.sum_univ_succ, EReal.coe_add, ih]

/-- On rows and matrices of real numbers, and any biases, the reference's two layers are the kernel's one. -/
theorem rowRef_eq_rowK (x : Fin 64 → EReal) (w1 : Fin 64 → Fin 64 → EReal) (b1 w2 : Fin 64 → EReal) (b2 : EReal)
    (hx : ∀ j, ∃ r : ℝ, x j = r) (hw1 : ∀ k j, ∃ r : ℝ, w1 k j = r) (hw2 : ∀ k, ∃ r : ℝ, w2 k = r) :
    rowRef x w1 b1 w2 b2 = rowK x (fun j => ∑ k : Fin 64, w2 k * w1 k j) ((∑ k : Fin 64, w2 k * b1 k) + b2) := by
  choose x' ex using hx
  choose w1' ew1 using hw1
  choose w2' ew2 using hw2
  obtain rfl : x = fun j => (x' j : EReal) := funext ex
  obtain rfl : w1 = fun k j => (w1' k j : EReal) := funext fun k => funext (ew1 k)
  obtain rfl : w2 = fun k => (w2' k : EReal) := funext ew2
  unfold rowRef rowK
  refine congrArg elu ?_
  simp only [← EReal.coe_mul, ← coe_sum]
  rw [Finset.sum_congr rfl fun k _ => add_mul_real _ _ _, Finset.sum_add_distrib, add_assoc]
  refine congrArg (· + _) ?_
  simp only [← EReal.coe_mul, ← coe_sum]
  exact congrArg _ (two_layers_real x' w1' w2')

end Cert.Mlp

end
-- ==== Proof.Value.lean ====
module

public import proofs.«01_k».proof.Proof.Table
public import proofs.«01_k».proof.Proof.Fold

@[expose] public section

noncomputable section

namespace Cert.Mlp

open Cert.KernelIdeal Cert.KernelIdeal.Gen Idealize.ShloMosaic
open Idealize.ShloMosaic.StableHlo (after)
open Cert.Mlp.Ref (elu rowRef)

/-! ## The program's result, entry by entry -/

/-- The gathered rows, less their padding, as the result's entries. -/
theorem crop_apply (x : FVec Ideal S819200x16 .f32) (b : Fin 4096) (l : Fin 200) (q : Fin 6) :
    shapeCast S4096x200x6 (extractStridedSlice S819200x6 ![0, 0] x slices_S819200x16_S819200x6_0_0) shapeCasts_S819200x6_S4096x200x6 (ix3 b l q)
      = x (ix2 ⟨b.val * 200 + l.val, by omega⟩ ⟨q.val, by omega⟩) := by
  pointwise

/-- The list of tokens, flat. -/
theorem tokens_apply (a0 : IVec S4096x200 32) (b : Fin 4096) (l : Fin 200) :
    shapeCast S819200 a0 shapeCasts_S4096x200_S819200 (ix1 ⟨b.val * 200 + l.val, by omega⟩) = a0 (ix2 b l) := by
  pointwise

/-- A gathered row is the table's row the list names. -/
theorem gathered_at (t : FVec Ideal S1000000x16 .f32) (ix : IVec S819200 32) (h : ∀ n, (ix n).toNat < 1000000) (n : Fin 819200) (q : Fin 16)
    {r : ℕ} (hr : r < 1000000) (e : (ix (ix1 n)).toNat = r) : gathered t ix h (ix2 n q) = t (ix2 ⟨r, hr⟩ q) := by
  subst e
  rfl

section Result

variable (m : (ℓ : Loc nD τ sig) → Buf (Elt Ideal) ℓ) (h : RowsOk m) (d : Dev nD)

/-- The tokens on a device. -/
def arg0 : IVec S4096x200 32 := m (tcLoc d main_arg0)

/-- The row the list names at a token is that token's row of the packed table. -/
theorem rowsOf_apply (b : Fin 4096) (l : Fin 200) (hv : (arg0 m d (ix2 b l)).toNat < 1000000) :
    (rowsOf m d (ix1 ⟨b.val * 200 + l.val, by omega⟩)).toNat = rowN (arg0 m d (ix2 b l)).toNat := by
  have e : rowsOf m d (ix1 ⟨b.val * 200 + l.val, by omega⟩) = rowW (arg0 m d (ix2 b l)) := by
    rw [rowsOf_eq]
    exact congrArg rowW (tokens_apply (arg0 m d) b l)
  rw [e, rowW_small hv, BitVec.toNat_ofNat]
  exact Nat.mod_eq_of_lt (lt_trans (rowN_lt hv) (by decide))

/-- The result at a token and a unit is the layer of the token's row in that unit. -/
theorem W7_apply (b : Fin 4096) (l : Fin 200) (q : Fin 6) (hv : (arg0 m d (ix2 b l)).toNat < 1000000) :
    (W7 m h d (Proc.devRef .tc main_v41) : FVec Ideal S4096x200x6 .f32) (ix3 b l q) = unit m d ⟨(arg0 m d (ix2 b l)).toNat, hv⟩ ⟨q.val, by omega⟩ := by
  unfold W7
  rw [opsD_v41]
  refine (crop_apply _ b l q).trans ?_
  have e : (W6 m h d (Proc.devRef .tc main_v39) : FVec Ideal S819200x16 .f32) = gathered (tblOf m d) (rowsOf m d) (h d) := Function.update_self _ _ _
  refine (congrFun e _).trans ?_
  exact (gathered_at _ _ (h d) _ _ (rowN_lt hv) (rowsOf_apply m d b l hv)).trans (table_apply m d ⟨(arg0 m d (ix2 b l)).toNat, hv⟩ (rowN_lt hv) _)

end Result

/-! ## Finite arguments -/

/-- A word whose magnitude compares below infinity is a real number. -/
theorem real_of_cmp {x : Ideal .f32} (h : FloatOps.cmpf .olt (FloatOps.hostAbsf x) (FloatOps.ofBits .f32 0x7F800000#32) = 1#1) : ∃ r : ℝ, x = (r : EReal) := by
  rw [inf_word, Ideal.cmpf_def] at h
  refine real_of_abs (x := x) ?_
  by_contra hn
  have e : Ideal.cmp .olt (FloatOps.hostAbsf x) (⊤ : EReal) = 0#1 := by
    show Ideal.cmp .olt (max x (-x)) (⊤ : EReal) = 0#1
    simp [Ideal.cmp, hn]
  rw [e] at h
  exact absurd h (by decide)

section Finite

variable (m : (ℓ : Loc nD τ sig) → Buf (Elt Ideal) ℓ) (h : RowsOk m) (d : Dev nD)

/-- With the table and the matrices real, the kernel's layer of a row is the reference's two. -/
theorem unit_eq (h1 : ∀ i, ∃ r : ℝ, arg1 m d i = (r : EReal)) (h2 : ∀ i, ∃ r : ℝ, arg2 m d i = (r : EReal))
    (h4 : ∀ i, ∃ r : ℝ, arg4 m d i = (r : EReal)) (v : Fin 1000000) (q : Fin 6) (hq : q.val < 16) :
    unit m d v ⟨q.val, hq⟩ = rowRef (fun j => arg1 m d (ix2 v j)) (fun k j => arg2 m d (ix2 k j)) (fun k => arg3 m d (ix1 k))
      (fun k => arg4 m d (ix2 q k)) (arg5 m d (ix1 q)) := by
  rw [rowRef_eq_rowK _ _ _ _ _ (fun j => h1 _) (fun k j => h2 _) (fun k => h4 _)]
  exact congr (congrArg (rowK _) (funext fun j => prodM_apply (arg2 m d) (arg4 m d) q j)) (biasM_apply (arg3 m d) (arg4 m d) (arg5 m d) q)

end Finite

/-- A rank-three array is its entries. -/
theorem ext3 {x y : FVec Ideal S4096x200x6 .f32} (e : ∀ b l q, x (ix3 b l q) = y (ix3 b l q)) : x = y := by
  funext i
  rw [eq_ix3 i]
  exact e _ _ _

/-- With the tokens rows of the table, and the table and the matrices real, the kernel's result is the reference's, of the same arguments. -/
theorem W7_eq (m : (ℓ : Loc nD τ sig) → Buf (Elt Ideal) ℓ) (hr : RowsOk m) (d : Dev nD)
    (h : Cert.Pre_finite.fn (F := Ideal) (arg0 m d) (arg1 m d) (arg2 m d) (arg3 m d) (arg4 m d) (arg5 m d) = fun _ => 1#1) :
    (W7 m hr d (Proc.devRef .tc main_v41) : FVec Ideal S4096x200x6 .f32)
      = Ref.last (Ref.pre (arg2 m d) (arg3 m d) (arg4 m d) (arg5 m d) (Ref.emb (arg0 m d) (arg1 m d))) := by
  obtain ⟨p0, p1, p2, p4⟩ := pre_parts _ _ _ _ _ _ h
  refine ext3 fun b l q => ?_
  rw [Ref.result_apply _ _ _ _ _ _ p0 b l q]
  exact (W7_apply m hr d b l q (p0 _)).trans (unit_eq m d (fun i => real_of_cmp (p1 i)) (fun i => real_of_cmp (p2 i)) (fun i => real_of_cmp (p4 i)) _ q _)

end Cert.Mlp

end
-- ==== Proof.lean ====
module

public import proofs.«01_k».proof.Proof.Gen.ReferenceIdeal.Run
public import proofs.«01_k».proof.Proof.Frames
public import proofs.«01_k».proof.Proof.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_in_range
public import proofs.«01_k».proof.Proof.Gen.Pre_finite
public import Idealize.ShloMosaic.Adequacy
public import Idealize.ShloMosaic.Init

@[expose] public section

noncomputable section

namespace Cert.Proof

open Idealize.ShloMosaic Idealize.SL.Sem Cert.Kernel

/-- The reference runs and keeps its arguments. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result on a device, from arguments equal to the kernel's. -/
theorem reference_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = Cert.Mlp.arg0 m c)
    (e1 : m' ((c.tc : Thread Cert.ReferenceIdeal.nD Cert.ReferenceIdeal.τ).loc Cert.ReferenceIdeal.main_arg1) = Cert.Mlp.arg1 m c)
    (e2 : m' ((c.tc : Thread Cert.ReferenceIdeal.nD Cert.ReferenceIdeal.τ).loc Cert.ReferenceIdeal.main_arg2) = Cert.Mlp.arg2 m c)
    (e3 : m' ((c.tc : Thread Cert.ReferenceIdeal.nD Cert.ReferenceIdeal.τ).loc Cert.ReferenceIdeal.main_arg3) = Cert.Mlp.arg3 m c)
    (e4 : m' ((c.tc : Thread Cert.ReferenceIdeal.nD Cert.ReferenceIdeal.τ).loc Cert.ReferenceIdeal.main_arg4) = Cert.Mlp.arg4 m c)
    (e5 : m' ((c.tc : Thread Cert.ReferenceIdeal.nD Cert.ReferenceIdeal.τ).loc Cert.ReferenceIdeal.main_arg5) = Cert.Mlp.arg5 m c) :
    Cert.ReferenceIdeal.Value.res_main_v11 m' c
      = Cert.Mlp.Ref.last (Cert.Mlp.Ref.pre (Cert.Mlp.arg2 m c) (Cert.Mlp.arg3 m c) (Cert.Mlp.arg4 m c) (Cert.Mlp.arg5 m c)
          (Cert.Mlp.Ref.emb (Cert.Mlp.arg0 m c) (Cert.Mlp.arg1 m c))) := by
  rw [Cert.Mlp.Ref.result_eq, e0, e1, e2, e3, e4, e5]

/-- From arguments the precondition holds of, the kernel and the reference end with the same result. -/
theorem same_result : Cert.algebraic_KernelIdeal_ReferenceIdeal_pre_finite := fun m g m' g' hp he => by
  have hr := Cert.Mlp.rowsOk m fun d => (Cert.Mlp.pre_parts _ _ _ _ _ _ (hp d)).1
  refine ⟨fun c => Cert.Mlp.W7 m hr c (Proc.devRef .tc Cert.KernelIdeal.main_v41),
    (θ_run Cert.KernelIdeal.defs _ _).mono (fun _ h => h.1) (Cert.Mlp.frame_run (F := Ideal) m g hr),
    (θ_run Cert.ReferenceIdeal.defs _ _).mono (fun r h c => ⟨(h c).1.trans ?_, (h c).2⟩) (Cert.ReferenceIdeal.Value.run (F := Ideal) m' g')⟩
  obtain ⟨e0, e1, e2, e3, e4, e5⟩ := he c
  exact (reference_value m m' c e0 e1 e2 e3 e4 e5).trans (Cert.Mlp.W7_eq m hr c (hp c)).symm

theorem claim : Cert.Claim := ⟨Cert.Kernel.Gen.facts, Cert.KernelIdeal.Gen.facts, Cert.ReferenceIdeal.Gen.facts, Cert.Pre_in_range.Gen.facts,
  Cert.Pre_finite.Gen.facts, Cert.Mlp.frame_bits, Cert.Mlp.frame_ideal, Cert.Mlp.frame_ideal_finite, frame_reference, fun m ρ _ => frame_reference m ρ trivial, trivial, same_result⟩

end Cert.Proof

end
